-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_model_parameters [hPre_model_parameters : Cert.Pre_model_parameters.Facts] (m : (ℓ : Loc Cert.KernelIdeal.nD Cert.KernelIdeal.τ Cert.KernelIdeal.sig) → Buf (Elt Ideal) ℓ) : Prop :=
  ∀ c : Dev Cert.KernelIdeal.nD,
    (Cert.Pre_model_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_model_parameters [hPre_model_parameters : Cert.Pre_model_parameters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_model_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_model_parameters [hKernelIdeal : Cert.KernelIdeal.Facts] [hPre_model_parameters : Cert.Pre_model_parameters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_model_parameters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_model_parameters [hReferenceIdeal : Cert.ReferenceIdeal.Facts] [hPre_model_parameters : Cert.Pre_model_parameters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_model_parameters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.sign_bit.Statement Cert.KernelIdeal.S2048x64 .f32
  ∧ IdealRules.sign_bit.Statement Cert.KernelIdeal.S2048x8 .f32

def algebraic_KernelIdeal_ReferenceIdeal_pre_model_parameters [hKernelIdeal : Cert.KernelIdeal.Facts] [hReferenceIdeal : Cert.ReferenceIdeal.Facts] [hPre_model_parameters : Cert.Pre_model_parameters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_model_parameters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_model_parameters : Cert.Pre_model_parameters.Facts),
    quiescent_Kernel (hKernel := hKernel)
    ∧ quiescent_KernelIdeal (hKernelIdeal := hKernelIdeal)
    ∧ quiescent_KernelIdeal_pre_model_parameters (hKernelIdeal := hKernelIdeal) (hPre_model_parameters := hPre_model_parameters)
    ∧ quiescent_ReferenceIdeal (hReferenceIdeal := hReferenceIdeal)
    ∧ quiescent_ReferenceIdeal_pre_model_parameters (hReferenceIdeal := hReferenceIdeal) (hPre_model_parameters := hPre_model_parameters)
    ∧ preserves_Kernel_KernelIdeal
    ∧ algebraic_KernelIdeal_ReferenceIdeal_pre_model_parameters (hKernelIdeal := hKernelIdeal) (hReferenceIdeal := hReferenceIdeal) (hPre_model_parameters := hPre_model_parameters)
-- ==== Pre_model_parameters.lean ====
abbrev S4x2048x2048 : Shape := ⟨3, ![4, 2048, 2048]⟩
abbrev S2048 : Shape := ⟨1, ![2048]⟩
abbrev S2048x512 : Shape := ⟨2, ![2048, 512]⟩
abbrev S512 : Shape := ⟨1, ![512]⟩
abbrev S512x2 : Shape := ⟨2, ![512, 2]⟩
abbrev S2 : Shape := ⟨1, ![2]⟩
abbrev S64x2048 : Shape := ⟨2, ![64, 2048]⟩
abbrev S64x16x16x3 : Shape := ⟨4, ![64, 16, 16, 3]⟩
abbrev S64 : Shape := ⟨1, ![64]⟩
abbrev S1 : Shape := ⟨1, ![1]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S512 : S_.BroadcastsInDim S512 (![] : Fin 0 → Fin S512.rank)
  reducesTo_S512_S_d0 : S512.ReducesTo [0] S_
  bcast_S_S2 : S_.BroadcastsInDim S2 (![] : Fin 0 → Fin S2.rank)
  reducesTo_S2_S_d0 : S2.ReducesTo [0] S_
  bcast_S_S64 : S_.BroadcastsInDim S64 (![] : Fin 0 → Fin S64.rank)
  reducesTo_S64_S_d0 : S64.ReducesTo [0] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S64x16x16x3 : S_.BroadcastsInDim S64x16x16x3 (![] : Fin 0 → Fin S64x16x16x3.rank)
  reducesTo_S64x16x16x3_S_d0_1_2_3 : S64x16x16x3.ReducesTo [0, 1, 2, 3] S_

variable [Facts]

def fn_part2 {F : FTy → Type} [FloatOps F] (main_v28 : IVec S_ 1) (main_v31 : IVec S64x16x16x3 1) (main_c_13 : IVec S_ 1) : IVec S_ 1 :=
  let main_v32 : IVec S_ 1 := (fun x v => Host.reduce IntOp.andi x v reducesTo_S64x16x16x3_S_d0_1_2_3 h_S_) main_v31 main_c_13
  let main_v33 : IVec S_ 1 := andi main_v28 main_v32
  main_v33

def fn_part1 {F : FTy → Type} [FloatOps F] (main_arg0 : FVec F S4x2048x2048 .f32) (main_arg3 : FVec F S2048x512 .f32) (main_arg8 : FVec F S64x16x16x3 .f32) (main_arg9 : FVec F S64 .f32) (main_v14 : IVec S_ 1) (main_cst_6 : FVec F S_ .f32) : IVec S_ 1 :=
  let main_v15 : FVec F S64 .f32 := broadcastInDim S64 ![] bcast_S_S64 main_cst_6
  let main_v16 : IVec S64 1 := cmpf .oeq main_arg9 main_v15
  let main_c_7 : IVec S_ 1 := constantI S_ 1 1#1
  let main_v17 : IVec S_ 1 := (fun x v => Host.reduce IntOp.andi x v reducesTo_S64_S_d0 h_S_) main_v16 main_c_7
  let main_v18 : IVec S_ 1 := andi main_v14 main_v17
  let main_v19 : FVec F S4x2048x2048 .f32 := Host.absf main_arg0
  let main_cst_8 : FVec F S_ .f32 := constant S_ .f32 0x7F800000#32
  let main_v20 : FVec F S4x2048x2048 .f32 := broadcastInDim S4x2048x2048 ![] bcast_S_S4x2048x2048 main_cst_8
  let main_v21 : IVec S4x2048x2048 1 := cmpf .olt main_v19 main_v20
  let main_c_9 : IVec S_ 1 := constantI S_ 1 1#1
  let main_v22 : IVec S_ 1 := (fun x v => Host.reduce IntOp.andi x v reducesTo_S4x2048x2048_S_d0_1_2 h_S_) main_v21 main_c_9
  let main_v23 : IVec S_ 1 := andi main_v18 main_v22
  let main_v24 : FVec F S2048x512 .f32 := Host.absf main_arg3
  let main_cst_10 : FVec F S_ .f32 := constant S_ .f32 0x7F800000#32
  let main_v25 : FVec F S2048x512 .f32 := broadcastInDim S2048x512 ![] bcast_S_S2048x512 main_cst_10
  let main_v26 : IVec S2048x512 1 := cmpf .olt main_v24 main_v25
  let main_c_11 : IVec S_ 1 := constantI S_ 1 1#1
  let main_v27 : IVec S_ 1 := (fun x v => Host.reduce IntOp.andi x v reducesTo_S2048x512_S_d0_1 h_S_) main_v26 main_c_11
  let main_v28 : IVec S_ 1 := andi main_v23 main_v27
  let main_v29 : FVec F S64x16x16x3 .f32 := Host.absf main_arg8
  let main_cst_12 : FVec F S_ .f32 := constant S_ .f32 0x7F800000#32
  let main_v30 : FVec F S64x16x16x3 .f32 := broadcastInDim S64x16x16x3 ![] bcast_S_S64x16x16x3 main_cst_12
  let main_v31 : IVec S64x16x16x3 1 := cmpf .olt main_v29 main_v30
  let main_c_13 : IVec S_ 1 := constantI S_ 1 1#1
  fn_part2 (F := F) main_v28 main_v31 main_c_13

def fn {F : FTy → Type} [FloatOps F] (main_arg0 : FVec F S4x2048x2048 .f32) (main_arg1 : FVec F S2048 .f32) (main_arg2 : FVec F S2048 .f32) (main_arg3 : FVec F S2048x512 .f32) (main_arg4 : FVec F S512 .f32) (main_arg5 : FVec F S512x2 .f32) (main_arg6 : FVec F S2 .f32) (main_arg7 : FVec F S64x2048 .f32) (main_arg8 : FVec F S64x16x16x3 .f32) (main_arg9 : FVec F S64 .f32) (main_arg10 : FVec F S1 .f32) : IVec S_ 1 :=
  let main_cst : FVec F S_ .f32 := constant S_ .f32 0x3F800000#32
  let main_v0 : FVec F S2048 .f32 := broadcastInDim S2048 ![] bcast_S_S2048 main_cst
  let main_v1 : IVec S2048 1 := cmpf .oeq main_arg1 main_v0
  let main_c : IVec S_ 1 := constantI S_ 1 1#1
  let main_v2 : IVec S_ 1 := (fun x v => Host.reduce IntOp.andi x v reducesTo_S2048_S_d0 h_S_) main_v1 main_c
  let main_cst_0 : FVec F S_ .f32 := constant S_ .f32 0x00000000#32
  let main_v3 : FVec F S2048 .f32 := broadcastInDim S2048 ![] bcast_S_S2048 main_cst_0
  let main_v4 : IVec S2048 1 := cmpf .oeq main_arg2 main_v3
  let main_c_1 : IVec S_ 1 := constantI S_ 1 1#1
  let main_v5 : IVec S_ 1 := (fun x v => Host.reduce IntOp.andi x v reducesTo_S2048_S_d0 h_S_) main_v4 main_c_1
  let main_v6 : IVec S_ 1 := andi main_v2 main_v5
  let main_cst_2 : FVec F S_ .f32 := constant S_ .f32 0x00000000#32
  let main_v7 : FVec F S512 .f32 := broadcastInDim S512 ![] bcast_S_S512 main_cst_2
  let main_v8 : IVec S512 1 := cmpf .oeq main_arg4 main_v7
  let main_c_3 : IVec S_ 1 := constantI S_ 1 1#1
  let main_v9 : IVec S_ 1 := (fun x v => Host.reduce IntOp.andi x v reducesTo_S512_S_d0 h_S_) main_v8 main_c_3
  let main_v10 : IVec S_ 1 := andi main_v6 main_v9
  let main_cst_4 : FVec F S_ .f32 := constant S_ .f32 0x00000000#32
  let main_v11 : FVec F S2 .f32 := broadcastInDim S2 ![] bcast_S_S2 main_cst_4
  let main_v12 : IVec S2 1 := cmpf .oeq main_arg6 main_v11
  let main_c_5 : IVec S_ 1 := constantI S_ 1 1#1
  let main_v13 : IVec S_ 1 := (fun x v => Host.reduce IntOp.andi x v reducesTo_S2_S_d0 h_S_) main_v12 main_c_5
  let main_v14 : IVec S_ 1 := andi main_v10 main_v13
  let main_cst_6 : FVec F S_ .f32 := constant S_ .f32 0x3F800000#32
  fn_part1 (F := F) main_arg0 main_arg3 main_arg8 main_arg9 main_v14 main_cst_6
-- ==== Kernel.lean ====
abbrev S4x2048x2048 : Shape := ⟨3, ![4, 2048, 2048]⟩
abbrev S2048 : Shape := ⟨1, ![2048]⟩
abbrev S2048x512 : Shape := ⟨2, ![2048, 512]⟩
abbrev S512 : Shape := ⟨1, ![512]⟩
abbrev S512x2 : Shape := ⟨2, ![512, 2]⟩
abbrev S2 : Shape := ⟨1, ![2]⟩
abbrev S64x2048 : Shape := ⟨2, ![64, 2048]⟩
abbrev S64x16x16x3 : Shape := ⟨4, ![64, 16, 16, 3]⟩
abbrev S64 : Shape := ⟨1, ![64]⟩
abbrev S1 : Shape := ⟨1, ![1]⟩
abbrev S8192x2048 : Shape := ⟨2, ![8192, 2048]⟩
abbrev S_ : Shape := ⟨0, ![]⟩
abbrev S512x128 : Shape := ⟨2, ![512, 128]⟩
abbrev S2048x64 : Shape := ⟨2, ![2048, 64]⟩
abbrev S64x16x3x16 : Shape := ⟨4, ![64, 16, 3, 16]⟩
abbrev S1024x48 : Shape := ⟨2, ![1024, 48]⟩
abbrev S1024x128 : Shape := ⟨2, ![1024, 128]⟩
abbrev S1x1 : Shape := ⟨2, ![1, 1]⟩
abbrev S1024x2048 : Shape := ⟨2, ![1024, 2048]⟩
abbrev S2048x128 : Shape := ⟨2, ![2048, 128]⟩
abbrev S1x128 : Shape := ⟨2, ![1, 128]⟩
abbrev S1x512 : Shape := ⟨2, ![1, 512]⟩
abbrev S64x8 : Shape := ⟨2, ![64, 8]⟩
abbrev S2048x8 : Shape := ⟨2, ![2048, 8]⟩
abbrev S2048x1 : Shape := ⟨2, ![2048, 1]⟩
abbrev S2048x55 : Shape := ⟨2, ![2048, 55]⟩
abbrev S128 : Shape := ⟨1, ![128]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩
abbrev S1024x8 : Shape := ⟨2, ![1024, 8]⟩
abbrev S1x8 : Shape := ⟨2, ![1, 8]⟩
abbrev S1024x512 : Shape := ⟨2, ![1024, 512]⟩
abbrev S1024x1024 : Shape := ⟨2, ![1024, 1024]⟩
abbrev S1024x16 : Shape := ⟨2, ![1024, 16]⟩

abbrev nBuf : Space → Nat
  | .hbm => 29
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S512x2, .f32⟩
  | .hbm, ⟨6, _⟩ => ⟨S2, .f32⟩
  | .hbm, ⟨7, _⟩ => ⟨S64x2048, .f32⟩
  | .hbm, ⟨8, _⟩ => ⟨S64x16x16x3, .f32⟩
  | .hbm, ⟨9, _⟩ => ⟨S64, .f32⟩
  | .hbm, ⟨10, _⟩ => ⟨S1, .f32⟩
  | .hbm, ⟨11, _⟩ => ⟨S8192x2048, .f32⟩
  | .hbm, ⟨12, _⟩ => ⟨S_, .bf16⟩
  | .hbm, ⟨13, _⟩ => ⟨S512x128, .bf16⟩
  | .hbm, ⟨14, _⟩ => ⟨S512x2, .bf16⟩
  | .hbm, ⟨15, _⟩ => ⟨S_, .i32⟩
  | .hbm, ⟨16, _⟩ => ⟨S1, .i32⟩
  | .hbm, ⟨17, _⟩ => ⟨S512x128, .bf16⟩
  | .hbm, ⟨18, _⟩ => ⟨S2048x64, .f32⟩
  | .hbm, ⟨19, _⟩ => ⟨S64x16x3x16, .f32⟩
  | .hbm, ⟨20, _⟩ => ⟨S1024x48, .f32⟩
  | .hbm, ⟨21, _⟩ => ⟨S_, .f32⟩
  | .hbm, ⟨22, _⟩ => ⟨S1024x128, .f32⟩
  | .hbm, ⟨23, _⟩ => ⟨S_, .i32⟩
  | .hbm, ⟨24, _⟩ => ⟨S1, .i32⟩
  | .hbm, ⟨25, _⟩ => ⟨S1024x128, .f32⟩
  | .hbm, ⟨26, _⟩ => ⟨S1x1, .f32⟩
  | .hbm, ⟨27, _⟩ => ⟨S8192x2048, .f32⟩
  | .hbm, ⟨28, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S512x128, .bf16⟩
  | .local _ .vmem, ⟨4, _⟩ => ⟨S2048x64, .f32⟩
  | .local _ .vmem, ⟨5, _⟩ => ⟨S64x2048, .f32⟩
  | .local _ .vmem, ⟨6, _⟩ => ⟨S1024x128, .f32⟩
  | .local _ .vmem, ⟨7, _⟩ => ⟨S1x1, .f32⟩
  | .local _ .vmem, ⟨8, _⟩ => ⟨S1024x2048, .f32⟩
  | .local _ .vmem, ⟨9, _⟩ => ⟨S1024x2048, .f32⟩
  | .local _ .vmem, ⟨10, _⟩ => ⟨S2048x128, .bf16⟩
  | .local _ .vmem, ⟨11, _⟩ => ⟨S1024x128, .bf16⟩
  | .local _ .vmem, ⟨12, _⟩ => ⟨S2048x512, .bf16⟩
  | .local _ .vmem, ⟨13, _⟩ => ⟨S64x2048, .bf16⟩
  | .local _ .vmem, ⟨14, _⟩ => ⟨S1x128, .f32⟩
  | .local _ .vmem, ⟨15, _⟩ => ⟨S1x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_call0_c : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_0 : Ref sig .tc := ⟨.hbm, 21, rfl⟩
abbrev main_call0_v8 : Ref sig .tc := ⟨.hbm, 22, rfl⟩
abbrev main_call0_c_1 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S4x2048x2048 : Shape := ⟨3, ![4, 2048, 2048]⟩
abbrev S2048 : Shape := ⟨1, ![2048]⟩
abbrev S2048x512 : Shape := ⟨2, ![2048, 512]⟩
abbrev S512 : Shape := ⟨1, ![512]⟩
abbrev S512x2 : Shape := ⟨2, ![512, 2]⟩
abbrev S2 : Shape := ⟨1, ![2]⟩
abbrev S64x2048 : Shape := ⟨2, ![64, 2048]⟩
abbrev S64x16x16x3 : Shape := ⟨4, ![64, 16, 16, 3]⟩
abbrev S64 : Shape := ⟨1, ![64]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S8x8x2048 : Shape := ⟨3, ![8, 8, 2048]⟩
abbrev S8x2048 : Shape := ⟨2, ![8, 2048]⟩
abbrev S2048x8 : Shape := ⟨2, ![2048, 8]⟩
abbrev S8192x8 : Shape := ⟨2, ![8192, 8]⟩
abbrev S8192 : Shape := ⟨1, ![8192]⟩
abbrev S2048x64 : Shape := ⟨2, ![2048, 64]⟩
abbrev S8192x64 : Shape := ⟨2, ![8192, 64]⟩
abbrev S8192x8x8 : Shape := ⟨3, ![8192, 8, 8]⟩
abbrev S8192x1x1 : Shape := ⟨3, ![8192, 1, 1]⟩
abbrev S1x1x1 : Shape := ⟨3, ![1, 1, 1]⟩
abbrev S8192x1 : Shape := ⟨2, ![8192, 1]⟩
abbrev S8192x1x8 : Shape := ⟨3, ![8192, 1, 8]⟩
abbrev S8192x512 : Shape := ⟨2, ![8192, 512]⟩
abbrev S1x512 : Shape := ⟨2, ![1, 512]⟩
abbrev S8192x2 : Shape := ⟨2, ![8192, 2]⟩
abbrev S1x2 : Shape := ⟨2, ![1, 2]⟩
abbrev S8192x3 : Shape := ⟨2, ![8192, 3]⟩

abbrev nBuf : Space → Nat
  | .hbm => 252
  | .vmem => 0
  | .smem => 0
  | _ => 0

abbrev hbmTy0_0 (i : Nat) : BufTy := match i % 128 with
  | 0 => ⟨S4x2048x2048, .f32⟩
  | 1 => ⟨S2048, .f32⟩
  | 2 => ⟨S2048, .f32⟩
  | 3 => ⟨S2048x512, .f32⟩
  | 4 => ⟨S512, .f32⟩
  | 5 => ⟨S512x2, .f32⟩
  | 6 => ⟨S2, .f32⟩
  | 7 => ⟨S64x2048, .f32⟩
  | 8 => ⟨S64x16x16x3, .f32⟩
  | 9 => ⟨S64, .f32⟩
  | 10 => ⟨S1, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S4x2048x2048, .f32⟩
  | 18 => ⟨S4x2048x2048, .f32⟩
  | 19 => ⟨S4x2048x2048, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x2048, .f32⟩
  | 27 => ⟨S4x2048x2048, .f32⟩
  | 28 => ⟨S_, .f32⟩
  | 29 => ⟨S4x2048x1, .f32⟩
  | 30 => ⟨S4x2048x1, .f32⟩
  | 31 => ⟨S4x2048x1, .f32⟩
  | 32 => ⟨S4x2048x2048, .f32⟩
  | 33 => ⟨S4x2048x2048, .f32⟩
  | 34 => ⟨S1x1x2048, .f32⟩
  | 35 => ⟨S4x2048x2048, .f32⟩
  | 36 => ⟨S4x2048x2048, .f32⟩
  | 37 => ⟨S1x1x2048, .f32⟩
  | 38 => ⟨S4x2048x2048, .f32⟩
  | 39 => ⟨S4x2048x2048, .f32⟩
  | 40 => ⟨S8192x2048, .f32⟩
  | 41 => ⟨S64x2048, .f32⟩
  | 42 => ⟨S8x8x2048, .f32⟩
  | 43 => ⟨S_, .f32⟩
  | 44 => ⟨S8x2048, .f32⟩
  | 45 => ⟨S_, .f32⟩
  | 46 => ⟨S8x2048, .f32⟩
  | 47 => ⟨S8x2048, .f32⟩
  | 48 => ⟨S8x2048, .f32⟩
  | 49 => ⟨S2048x8, .f32⟩
  | 50 => ⟨S8192x8, .f32⟩
  | 51 => ⟨S8192x8, .i32⟩
  | 52 => ⟨S_, .f32⟩
  | 53 => ⟨S_, .i32⟩
  | 54 => ⟨S8192, .f32⟩
  | 55 => ⟨S8192, .i32⟩
  | 56 => ⟨S2048x64, .f32⟩
  | 57 => ⟨S8192x64, .f32⟩
  | 58 => ⟨S8192x8x8, .f32⟩
  | 59 => ⟨S8192x1x1, .i32⟩
  | 60 => ⟨S_, .i32⟩
  | 61 => ⟨S8192x1x1, .i32⟩
  | 62 => ⟨S8192x1x1, .i1⟩
  | 63 => ⟨S_, .i32⟩
  | 64 => ⟨S8192x1x1, .i32⟩
  | 65 => ⟨S8192x1x1, .i32⟩
  | 66 => ⟨S8192x1x1, .i32⟩
  | 67 => ⟨S1, .i32⟩
  | 68 => ⟨S_, .i32⟩
  | 69 => ⟨S8192x1x1, .i32⟩
  | 70 => ⟨S8192x1x1, .i1⟩
  | 71 => ⟨S1x1x1, .i32⟩
  | 72 => ⟨S8192x1x1, .i32⟩
  | 73 => ⟨S8192x1x1, .i1⟩
  | 74 => ⟨S8192x1x1, .i1⟩
  | 75 => ⟨S_, .i1⟩
  | 76 => ⟨S8192x1, .i1⟩
  | 77 => ⟨S8192x1x8, .f32⟩
  | 78 => ⟨S8192x1x8, .i1⟩
  | 79 => ⟨S_, .f32⟩
  | 80 => ⟨S8192x1x8, .f32⟩
  | 81 => ⟨S8192x1x8, .f32⟩
  | 82 => ⟨S8192x8, .f32⟩
  | 83 => ⟨S8192x8, .i32⟩
  | 84 => ⟨S_, .f32⟩
  | 85 => ⟨S_, .i32⟩
  | 86 => ⟨S8192, .f32⟩
  | 87 => ⟨S8192, .i32⟩
  | 88 => ⟨S_, .i32⟩
  | 89 => ⟨S8192, .i32⟩
  | 90 => ⟨S8192, .i32⟩
  | 91 => ⟨S8192, .i32⟩
  | 92 => ⟨S8192x512, .f32⟩
  | 93 => ⟨S1x512, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S8192x512, .f32⟩
  | 100 => ⟨S_, .f32⟩
  | 101 => ⟨S8192x512, .f32⟩
  | 102 => ⟨S8192x512, .f32⟩
  | 103 => ⟨S8192x512, .f32⟩
  | 104 => ⟨S8192x512, .f32⟩
  | 105 => ⟨S8192x2, .f32⟩
  | 106 => ⟨S1x2, .f32⟩
  | 107 => ⟨S8192x2, .f32⟩
  | 108 => ⟨S8192x2, .f32⟩
  | 109 => ⟨S8192x2, .f32⟩
  | 110 => ⟨S8192x1, .f32⟩
  | 111 => ⟨S8192, .f32⟩
  | 112 => ⟨S8192x1, .f32⟩
  | 113 => ⟨S8192, .f32⟩
  | 114 => ⟨S_, .f32⟩
  | 115 => ⟨S8192, .f32⟩
  | 116 => ⟨S8192, .f32⟩
  | 117 => ⟨S_, .f32⟩
  | 118 => ⟨S8192, .f32⟩
  | 119 => ⟨S8192, .f32⟩
  | 120 => ⟨S_, .f32⟩
  | 121 => ⟨S8192, .f32⟩
  | 122 => ⟨S8192, .f32⟩
  | 123 => ⟨S8192, .i32⟩
  | 124 => ⟨S_, .i32⟩
  | 125 => ⟨S_, .i32⟩
  | 126 => ⟨S_, .i32⟩
  | 127 => ⟨S8192, .i32⟩
  | _ => ⟨S4x2048x2048, .f32⟩

abbrev hbmTy0_1 (i : Nat) : BufTy := match i % 128 with
  | 0 => ⟨S8192, .i32⟩
  | 1 => ⟨S_, .i32⟩
  | 2 => ⟨S8192, .i32⟩
  | 3 => ⟨S8192, .i32⟩
  | 4 => ⟨S_, .f32⟩
  | 5 => ⟨S8192, .f32⟩
  | 6 => ⟨S8192, .f32⟩
  | 7 => ⟨S_, .f32⟩
  | 8 => ⟨S8192, .f32⟩
  | 9 => ⟨S8192, .f32⟩
  | 10 => ⟨S_, .f32⟩
  | 11 => ⟨S8192, .f32⟩
  | 12 => ⟨S8192, .f32⟩
  | 13 => ⟨S8192, .i32⟩
  | 14 => ⟨S_, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .f32⟩
  | 23 => ⟨S64x16x16x3, .f32⟩
  | 24 => ⟨S64x16x16x3, .i1⟩
  | 25 => ⟨S_, .f32⟩
  | 26 => ⟨S64x16x16x3, .f32⟩
  | 27 => ⟨S64x16x16x3, .i1⟩
  | 28 => ⟨S_, .f32⟩
  | 29 => ⟨S_, .f32⟩
  | 30 => ⟨S64x16x16x3, .f32⟩
  | 31 => ⟨S64x16x16x3, .f32⟩
  | 32 => ⟨S64x16x16x3, .f32⟩
  | 33 => ⟨S_, .f32⟩
  | 34 => ⟨S64x16x16x3, .f32⟩
  | 35 => ⟨S64x16x16x3, .f32⟩
  | 36 => ⟨S64x16x16x3, .f32⟩
  | 37 => ⟨S64x16x16x3, .f32⟩
  | 38 => ⟨S64x16x16x3, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x1, .i32⟩
  | 62 => ⟨S8192x1, .i32⟩
  | 63 => ⟨S8192x3, .i32⟩
  | 64 => ⟨S8192x3, .f32⟩
  | 65 => ⟨S_, .f32⟩
  | 66 => ⟨S8192, .f32⟩
  | 67 => ⟨S8192, .f32⟩
  | 68 => ⟨S8192, .f32⟩
  | 69 => ⟨S_, .f32⟩
  | 70 => ⟨S8192, .f32⟩
  | 71 => ⟨S8192, .f32⟩
  | 72 => ⟨S8192, .f32⟩
  | 73 => ⟨S_, .f32⟩
  | 74 => ⟨S8192, .f32⟩
  | 75 => ⟨S8192, .f32⟩
  | 76 => ⟨S_, .f32⟩
  | 77 => ⟨S8192, .f32⟩
  | 78 => ⟨S8192, .f32⟩
  | 79 => ⟨S8192, .f32⟩
  | 80 => ⟨S_, .f32⟩
  | 81 => ⟨S8192, .f32⟩
  | 82 => ⟨S8192, .f32⟩
  | 83 => ⟨S8192, .f32⟩
  | 84 => ⟨S_, .f32⟩
  | 85 => ⟨S8192, .f32⟩
  | 86 => ⟨S8192, .f32⟩
  | 87 => ⟨S8192x1, .f32⟩
  | 88 => ⟨S8192, .f32⟩
  | 89 => ⟨S8192x1, .f32⟩
  | 90 => ⟨S8192, .f32⟩
  | 91 => ⟨S8192, .f32⟩
  | 92 => ⟨S8192, .f32⟩
  | 93 => ⟨S8192x1, .f32⟩
  | 94 => ⟨S8192, .f32⟩
  | 95 => ⟨S8192, .f32⟩
  | 96 => ⟨S8192, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192, .f32⟩
  | 106 => ⟨S8192, .f32⟩
  | 107 => ⟨S8192x1, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x2048, .f32⟩
  | 117 => ⟨S8192x2048, .f32⟩
  | 118 => ⟨S8192x2048, .f32⟩
  | 119 => ⟨S4x2048x2048, .f32⟩
  | 120 => ⟨S1x1x1, .f32⟩
  | 121 => ⟨S4x2048x2048, .f32⟩
  | 122 => ⟨S4x2048x2048, .f32⟩
  | 123 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_cst : Ref sig .tc := ⟨.hbm, 52, rfl⟩
abbrev main_call0_c : Ref sig .tc := ⟨.hbm, 53, rfl⟩
abbrev main_call0_v1_0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_c_2 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_c_3 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v38 : Ref sig .tc := ⟨.hbm, 81, rfl⟩
abbrev main_v39 : Ref sig .tc := ⟨.hbm, 82, rfl⟩
abbrev main_call2_v0 : Ref sig .tc := ⟨.hbm, 83, rfl⟩
abbrev main_call2_cst : Ref sig .tc := ⟨.hbm, 84, rfl⟩
abbrev main_call2_c : Ref sig .tc := ⟨.hbm, 85, rfl⟩
abbrev main_call2_v1_0 : Ref sig .tc := ⟨.hbm, 86, rfl⟩
abbrev main_v40 : Ref sig .tc := ⟨.hbm, 87, rfl⟩
abbrev main_c : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_6 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_7 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_8 : Ref sig .tc := ⟨.hbm, 114, rfl⟩
abbrev main_v64 : Ref sig .tc := ⟨.hbm, 115, rfl⟩
abbrev main_v65 : Ref sig .tc := ⟨.hbm, 116, rfl⟩
abbrev main_cst_9 : Ref sig .tc := ⟨.hbm, 117, rfl⟩
abbrev main_v66 : Ref sig .tc := ⟨.hbm, 118, rfl⟩
abbrev main_v67 : Ref sig .tc := ⟨.hbm, 119, rfl⟩
abbrev main_cst_10 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_11 : Ref sig .tc := ⟨.hbm, 124, rfl⟩
abbrev main_c_12 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v71 : Ref sig .tc := ⟨.hbm, 131, rfl⟩
abbrev main_cst_13 : Ref sig .tc := ⟨.hbm, 132, rfl⟩
abbrev main_v72 : Ref sig .tc := ⟨.hbm, 133, rfl⟩
abbrev main_v73 : Ref sig .tc := ⟨.hbm, 134, rfl⟩
abbrev main_cst_14 : Ref sig .tc := ⟨.hbm, 135, rfl⟩
abbrev main_v74 : Ref sig .tc := ⟨.hbm, 136, rfl⟩
abbrev main_v75 : Ref sig .tc := ⟨.hbm, 137, rfl⟩
abbrev main_cst_15 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_c_16 : Ref sig .tc := ⟨.hbm, 142, rfl⟩
abbrev main_c_17 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_v79 : Ref sig .tc := ⟨.hbm, 149, rfl⟩
abbrev main_cst_18 : Ref sig .tc := ⟨.hbm, 150, rfl⟩
abbrev main_v80 : Ref sig .tc := ⟨.hbm, 151, rfl⟩
abbrev main_v81 : Ref sig .tc := ⟨.hbm, 152, rfl⟩
abbrev main_cst_19 : Ref sig .tc := ⟨.hbm, 153, rfl⟩
abbrev main_v82 : Ref sig .tc := ⟨.hbm, 154, rfl⟩
abbrev main_v83 : Ref sig .tc := ⟨.hbm, 155, rfl⟩
abbrev main_cst_20 : Ref sig .tc := ⟨.hbm, 156, rfl⟩
abbrev main_cst_21 : Ref sig .tc := ⟨.hbm, 157, rfl⟩
abbrev main_call5_v0 : Ref sig .tc := ⟨.hbm, 158, rfl⟩
abbrev main_call5_v1 : Ref sig .tc := ⟨.hbm, 159, rfl⟩
abbrev main_v84 : Ref sig .tc := ⟨.hbm, 160, rfl⟩
abbrev main_cst_22 : Ref sig .tc := ⟨.hbm, 161, rfl⟩
abbrev main_call6_v0 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_c_23 : Ref sig .tc := ⟨.hbm, 167, rfl⟩
abbrev main_v89 : Ref sig .tc := ⟨.hbm, 168, rfl⟩
abbrev main_v90 : Ref sig .tc := ⟨.hbm, 169, rfl⟩
abbrev main_c_24 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_c_25 : Ref sig .tc := ⟨.hbm, 174, rfl⟩
abbrev main_v94 : Ref sig .tc := ⟨.hbm, 175, rfl⟩
abbrev main_v95 : Ref sig .tc := ⟨.hbm, 176, rfl⟩
abbrev main_c_26 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_c_27 : Ref sig .tc := ⟨.hbm, 181, rfl⟩
abbrev main_v99 : Ref sig .tc := ⟨.hbm, 182, rfl⟩
abbrev main_v100 : Ref sig .tc := ⟨.hbm, 183, rfl⟩
abbrev main_c_28 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_29 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_30 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_cst_31 : Ref sig .tc := ⟨.hbm, 201, rfl⟩
abbrev main_v115 : Ref sig .tc := ⟨.hbm, 202, rfl⟩
abbrev main_v116 : Ref sig .tc := ⟨.hbm, 203, rfl⟩
abbrev main_cst_32 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_cst_33 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_34 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_c_35 : Ref sig .tc := ⟨.hbm, 225, rfl⟩
abbrev main_v135 : Ref sig .tc := ⟨.hbm, 226, rfl⟩
abbrev main_v136 : Ref sig .tc := ⟨.hbm, 227, rfl⟩
abbrev main_c_36 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_c_37 : Ref sig .tc := ⟨.hbm, 236, rfl⟩
abbrev main_v144 : Ref sig .tc := ⟨.hbm, 237, rfl⟩
abbrev main_v145 : Ref sig .tc := ⟨.hbm, 238, rfl⟩
abbrev main_c_38 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩

abbrev nD : Nat := 1
abbrev τ : Topo := Topo.v7x

variable {F : FTy → Type} [FloatOps F]
-- ==== Proof.RefRun.lean ====
/- The reference's host program as one list of operations, and its run: each named intermediate array as a term
   of the arguments, and the final memory that every execution of the program ends in. The program is cut into
   windows; a window's lemmas say what each array it leaves behind holds. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v107`, named. It packs its operands into a list of dependent pairs
    whose shapes a later argument's type mentions, so `simp` cannot rewrite an operand where it stands; applied by
    name, the operands are plain arguments, which the window lemmas below rewrite before the name unfolds. -/
def fn_main_v107 : (main_v104 : Ref sig .tc).ty.Contents (Elt F) → (main_v105 : Ref sig .tc).ty.Contents (Elt F) → (main_v106 : Ref sig .tc).ty.Contents (Elt F) → (main_v107 : Ref sig .tc).ty.Contents (Elt F) :=
  (fun u0 u1 u2 => (concatenate S8192x3 1 [⟨S8192x1, (u0 : (⟨S8192x1, .i32⟩ : BufTy).Contents (Elt F))⟩, ⟨S8192x1, (u1 : (⟨S8192x1, .i32⟩ : BufTy).Contents (Elt F))⟩, ⟨S8192x1, (u2 : (⟨S8192x1, .i32⟩ : BufTy).Contents (Elt F))⟩] concatenates_S8192x1_S8192x1_S8192x1_S8192x3_d1 : (⟨S8192x3, .i32⟩ : BufTy).Contents (Elt F)))

/-- @main's operations 1 … 30 of 241 (window `main_part0`). -/
abbrev ops_part0_0 : List (HloOp τ sig (Elt F)) :=
  [ nullary main_cst (constant S_ .f32 0x00000000#32),
    binary main_arg0 main_cst main_v0 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v0 main_v1 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x45000000#32),
    unary main_cst_0 main_v2 (broadcastInDim S4x2048x1 ![] bcast_S_S4x2048x1 : (⟨S_, .f32⟩ : BufTy).Contents (Elt F) → (⟨S4x2048x1, .f32⟩ : BufTy).Contents (Elt F)),
    binary main_v1 main_v2 main_v3 (Host.divf : (⟨S4x2048x1, .f32⟩ : BufTy).Contents (Elt F) → (⟨S4x2048x1, .f32⟩ : BufTy).Contents (Elt F) → (⟨S4x2048x1, .f32⟩ : BufTy).Contents (Elt F)),
    unary main_v3 main_v4 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v4 main_v5 (subf : (⟨S4x2048x2048, .f32⟩ : BufTy).Contents (Elt F) → (⟨S4x2048x2048, .f32⟩ : BufTy).Contents (Elt F) → (⟨S4x2048x2048, .f32⟩ : BufTy).Contents (Elt F)),
    binary main_v5 main_v5 main_v6 (mulf : (⟨S4x2048x2048, .f32⟩ : BufTy).Contents (Elt F) → (⟨S4x2048x2048, .f32⟩ : BufTy).Contents (Elt F) → (⟨S4x2048x2048, .f32⟩ : BufTy).Contents (Elt F)),
    nullary main_cst_1 (constant S_ .f32 0x00000000#32),
    binary main_v6 main_cst_1 main_v7 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v7 main_v8 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_2 (constant S_ .f32 0x45000000#32),
    unary main_cst_2 main_v9 (broadcastInDim S4x2048x1 ![] bcast_S_S4x2048x1 : (⟨S_, .f32⟩ : BufTy).Contents (Elt F) → (⟨S4x2048x1, .f32⟩ : BufTy).Contents (Elt F)),
    binary main_v8 main_v9 main_v10 (Host.divf : (⟨S4x2048x1, .f32⟩ : BufTy).Contents (Elt F) → (⟨S4x2048x1, .f32⟩ : BufTy).Contents (Elt F) → (⟨S4x2048x1, .f32⟩ : BufTy).Contents (Elt F)),
    unary main_v3 main_v11 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v11 main_v12 (subf : (⟨S4x2048x2048, .f32⟩ : BufTy).Contents (Elt F) → (⟨S4x2048x2048, .f32⟩ : BufTy).Contents (Elt F) → (⟨S4x2048x2048, .f32⟩ : BufTy).Contents (Elt F)),
    nullary main_cst_3 (constant S_ .f32 0x3727C5AC#32),
    unary main_cst_3 main_v13 (broadcastInDim S4x2048x1 ![] bcast_S_S4x2048x1 : (⟨S_, .f32⟩ : BufTy).Contents (Elt F) → (⟨S4x2048x1, .f32⟩ : BufTy).Contents (Elt F)),
    binary main_v10 main_v13 main_v14 (addf : (⟨S4x2048x1, .f32⟩ : BufTy).Contents (Elt F) → (⟨S4x2048x1, .f32⟩ : BufTy).Contents (Elt F) → (⟨S4x2048x1, .f32⟩ : BufTy).Contents (Elt F)),
    unary main_v14 main_v15 (Host.sqrt : (⟨S4x2048x1, .f32⟩ : BufTy).Contents (Elt F) → (⟨S4x2048x1, .f32⟩ : BufTy).Contents (Elt F)),
    unary main_v15 main_v16 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v12 main_v16 main_v17 (Host.divf : (⟨S4x2048x2048, .f32⟩ : BufTy).Contents (Elt F) → (⟨S4x2048x2048, .f32⟩ : BufTy).Contents (Elt F) → (⟨S4x2048x2048, .f32⟩ : BufTy).Contents (Elt F)),
    unary main_arg1 main_v18 (broadcastInDim S1x1x2048 ![2] bcast_S2048_S1x1x2048_2 : (⟨S2048, .f32⟩ : BufTy).Contents (Elt F) → (⟨S1x1x2048, .f32⟩ : BufTy).Contents (Elt F)),
    unary main_v18 main_v19 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v17 main_v19 main_v20 (mulf : (⟨S4x2048x2048, .f32⟩ : BufTy).Contents (Elt F) → (⟨S4x2048x2048, .f32⟩ : BufTy).Contents (Elt F) → (⟨S4x2048x2048, .f32⟩ : BufTy).Contents (Elt F)),
    unary main_arg2 main_v21 (broadcastInDim S1x1x2048 ![2] bcast_S2048_S1x1x2048_2 : (⟨S2048, .f32⟩ : BufTy).Contents (Elt F) → (⟨S1x1x2048, .f32⟩ : BufTy).Contents (Elt F)),
    unary main_v21 main_v22 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    binary main_v20 main_v22 main_v23 (addf : (⟨S4x2048x2048, .f32⟩ : BufTy).Contents (Elt F) → (⟨S4x2048x2048, .f32⟩ : BufTy).Contents (Elt F) → (⟨S4x2048x2048, .f32⟩ : BufTy).Contents (Elt F)),
    reshape main_v23 main_v24 (rfl : (.f32 : EltTy) = .f32) shapeCasts_S4x2048x2048_S8192x2048 ]

/-- @main's operations 31 … 60 of 241 (window `main_part0`). -/
abbrev ops_part0_1 : List (HloOp τ sig (Elt F)) :=
  [ unary main_arg7 main_v25 (Host.sign : (⟨S64x2048, .f32⟩ : BufTy).Contents (Elt F) → (⟨S64x2048, .f32⟩ : BufTy).Contents (Elt F)),
    reshape main_v25 main_v26 (rfl : (.f32 : EltTy) = .f32) shapeCasts_S64x2048_S8x8x2048,
    nullary main_cst_4 (constant S_ .f32 0x00000000#32),
    binary main_v26 main_cst_4 main_v27 ((fun x v => Host.reduceAdd x v reducesTo_S8x8x2048_S8x2048_d1 h_S_) : (⟨S8x8x2048, .f32⟩ : BufTy).Contents (Elt F) → (⟨S_, .f32⟩ : BufTy).Contents (Elt F) → (⟨S8x2048, .f32⟩ : BufTy).Contents (Elt F)),
    nullary main_cst_5 (constant S_ .f32 0x41000000#32),
    unary main_cst_5 main_v28 (broadcastInDim S8x2048 ![] bcast_S_S8x2048 : (⟨S_, .f32⟩ : BufTy).Contents (Elt F) → (⟨S8x2048, .f32⟩ : BufTy).Contents (Elt F)),
    binary main_v27 main_v28 main_v29 (Host.divf : (⟨S8x2048, .f32⟩ : BufTy).Contents (Elt F) → (⟨S8x2048, .f32⟩ : BufTy).Contents (Elt F) → (⟨S8x2048, .f32⟩ : BufTy).Contents (Elt F)),
    unary main_v29 main_v30 (Host.sign : (⟨S8x2048, .f32⟩ : BufTy).Contents (Elt F) → (⟨S8x2048, .f32⟩ : BufTy).Contents (Elt F)),
    unary main_v30 main_v31 ((transpose S2048x8 [1, 0] · transposes_S8x2048_S2048x8_1_0) : (⟨S8x2048, .f32⟩ : BufTy).Contents (Elt F) → (⟨S2048x8, .f32⟩ : BufTy).Contents (Elt F)),
    binary main_v24 main_v31 main_v32 ((fun l r => Host.dotGeneral dot_S8192x2048_S2048x8_S8192x8_1_0_0_1_n_n none l r) : (⟨S8192x2048, .f32⟩ : BufTy).Contents (Elt F) → (⟨S2048x8, .f32⟩ : BufTy).Contents (Elt F) → (⟨S8192x8, .f32⟩ : BufTy).Contents (Elt F)),
    TRef.nullary (TRef.of (T := ⟨S8192x8, .i32⟩) main_call0_v0) (iotaInDim S8192x8 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8192x8, .f32⟩) main_v32) (TRef.of (T := ⟨S8192x8, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmax_f32_i32 x y u v reducesTo_S8192x8_S8192_d1 h_S_ j).1),
    TRef.quaternary (TRef.of (T := ⟨S8192x8, .f32⟩) main_v32) (TRef.of (T := ⟨S8192x8, .i32⟩) main_call0_v0) (TRef.of (T := ⟨S_, .f32⟩) main_call0_cst) (TRef.of (T := ⟨S_, .i32⟩) main_call0_c) (TRef.of (T := ⟨S8192, .i32⟩) main_v33) (fun x y u v j => (Host.argReduce reducer_argmax_f32_i32 x y u v reducesTo_S8192x8_S8192_d1 h_S_ j).2),
    unary main_v25 main_v34 ((transpose S2048x64 [1, 0] · transposes_S64x2048_S2048x64_1_0) : (⟨S64x2048, .f32⟩ : BufTy).Contents (Elt F) → (⟨S2048x64, .f32⟩ : BufTy).Contents (Elt F)),
    binary main_v24 main_v34 main_v35 ((fun l r => Host.dotGeneral dot_S8192x2048_S2048x64_S8192x64_1_0_0_1_n_n none l r) : (⟨S8192x2048, .f32⟩ : BufTy).Contents (Elt F) → (⟨S2048x64, .f32⟩ : BufTy).Contents (Elt F) → (⟨S8192x64, .f32⟩ : BufTy).Contents (Elt F)),
    reshape main_v35 main_v36 (rfl : (.f32 : EltTy) = .f32) shapeCasts_S8192x64_S8192x8x8,
    unary main_v33 main_v37 (broadcastInDim S8192x1x1 ![0] bcast_S8192_S8192x1x1_0 : (⟨S8192, .i32⟩ : BufTy).Contents (Elt F) → (⟨S8192x1x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1x1, .i32⟩) main_call1_v0) (broadcastInDim S8192x1x1 ![] bcast_S_S8192x1x1),
    TRef.binary (TRef.of (T := ⟨S8192x1x1, .i32⟩) main_v37) (TRef.of (T := ⟨S8192x1x1, .i32⟩) main_call1_v0) (TRef.of (T := ⟨S8192x1x1, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S8192x1x1, .i32⟩) main_call1_v2) (broadcastInDim S8192x1x1 ![] bcast_S_S8192x1x1),
    TRef.binary (TRef.of (T := ⟨S8192x1x1, .i32⟩) main_v37) (TRef.of (T := ⟨S8192x1x1, .i32⟩) main_call1_v2) (TRef.of (T := ⟨S8192x1x1, .i32⟩) main_call1_v3) addi,
    TRef.ternary (TRef.of (T := ⟨S8192x1x1, .i1⟩) main_call1_v1) (TRef.of (T := ⟨S8192x1x1, .i32⟩) main_call1_v3) (TRef.of (T := ⟨S8192x1x1, .i32⟩) main_v37) (TRef.of (T := ⟨S8192x1x1, .i32⟩) main_call1_v4) select,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v5) (broadcastInDim S8192x1x1 ![] bcast_S_S8192x1x1),
    TRef.binary (TRef.of (T := ⟨S8192x1x1, .i32⟩) main_call1_v4) (TRef.of (T := ⟨S8192x1x1, .i32⟩) main_call1_v5) (TRef.of (T := ⟨S8192x1x1, .i1⟩) main_call1_v6) (cmpi .sge) ]

/-- @main's operations 61 … 89 of 241 (window `main_part0`). -/
abbrev ops_part0_2 : List (HloOp τ sig (Elt F)) :=
  [ TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S8192x1x1, .i32⟩) main_call1_v8) (broadcastInDim S8192x1x1 ![0, 1, 2] bcast_S1x1x1_S8192x1x1_0_1_2),
    TRef.binary (TRef.of (T := ⟨S8192x1x1, .i32⟩) main_call1_v4) (TRef.of (T := ⟨S8192x1x1, .i32⟩) main_call1_v8) (TRef.of (T := ⟨S8192x1x1, .i1⟩) main_call1_v9) (cmpi .sle),
    TRef.binary (TRef.of (T := ⟨S8192x1x1, .i1⟩) main_call1_v6) (TRef.of (T := ⟨S8192x1x1, .i1⟩) main_call1_v9) (TRef.of (T := ⟨S8192x1x1, .i1⟩) main_call1_v10) andi,
    TRef.nullary (TRef.of (T := ⟨S_, .i1⟩) main_call1_c_3) (constantI S_ 1 1#1),
    TRef.binary (TRef.of (T := ⟨S8192x1x1, .i1⟩) main_call1_v10) (TRef.of (T := ⟨S_, .i1⟩) main_call1_c_3) (TRef.of (T := ⟨S8192x1, .i1⟩) main_call1_v11) (fun x v => Host.reduce IntOp.andi x v reducesTo_S8192x1x1_S8192x1_d2 h_S_),
    TRef.binary (TRef.of (T := ⟨S8192x8x8, .f32⟩) main_v36) (TRef.of (T := ⟨S8192x1x1, .i32⟩) main_call1_v4) (TRef.of (T := ⟨S8192x1x8, .f32⟩) main_call1_v12) (fun x i => Host.gather gather_S8192x8x8_S8192x1x1_S8192x1x8_2_1_0_0_1_2_118 x i),
    TRef.unary (TRef.of (T := ⟨S8192x1, .i1⟩) main_call1_v11) (TRef.of (T := ⟨S8192x1x8, .i1⟩) main_call1_v13) (broadcastInDim S8192x1x8 ![0, 1] bcast_S8192x1_S8192x1x8_0_1),
    TRef.nullary (TRef.of (T := ⟨S_, .f32⟩) main_call1_cst) (constant S_ .f32 0x7FC00000#32),
    TRef.unary (TRef.of (T := ⟨S_, .f32⟩) main_call1_cst) (TRef.of (T := ⟨S8192x1x8, .f32⟩) main_call1_v14) (broadcastInDim S8192x1x8 ![] bcast_S_S8192x1x8),
    TRef.ternary (TRef.of (T := ⟨S8192x1x8, .i1⟩) main_call1_v13) (TRef.of (T := ⟨S8192x1x8, .f32⟩) main_call1_v12) (TRef.of (T := ⟨S8192x1x8, .f32⟩) main_call1_v14) (TRef.of (T := ⟨S8192x1x8, .f32⟩) main_v38) select,
    reshape main_v38 main_v39 (rfl : (.f32 : EltTy) = .f32) shapeCasts_S8192x1x8_S8192x8,
    TRef.nullary (TRef.of (T := ⟨S8192x8, .i32⟩) main_call2_v0) (iotaInDim S8192x8 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S8192x8, .f32⟩) main_v39) (TRef.of (T := ⟨S8192x8, .i32⟩) main_call2_v0) (TRef.of (T := ⟨S_, .f32⟩) main_call2_cst) (TRef.of (T := ⟨S_, .i32⟩) main_call2_c) (TRef.of (T := ⟨S8192, .f32⟩) main_call2_v1_0) (fun x y u v j => (Host.argReduce reducer_argmax_f32_i32 x y u v reducesTo_S8192x8_S8192_d1 h_S_ j).1),
    TRef.quaternary (TRef.of (T := ⟨S8192x8, .f32⟩) main_v39) (TRef.of (T := ⟨S8192x8, .i32⟩) main_call2_v0) (TRef.of (T := ⟨S_, .f32⟩) main_call2_cst) (TRef.of (T := ⟨S_, .i32⟩) main_call2_c) (TRef.of (T := ⟨S8192, .i32⟩) main_v40) (fun x y u v j => (Host.argReduce reducer_argmax_f32_i32 x y u v reducesTo_S8192x8_S8192_d1 h_S_ j).2),
    nullary main_c (constantI S_ 32 8#32),
    unary main_c main_v41 (broadcastInDim S8192 ![] bcast_S_S8192 : (⟨S_, .i32⟩ : BufTy).Contents (Elt F) → (⟨S8192, .i32⟩ : BufTy).Contents (Elt F)),
    binary main_v33 main_v41 main_v42 (muli : (⟨S8192, .i32⟩ : BufTy).Contents (Elt F) → (⟨S8192, .i32⟩ : BufTy).Contents (Elt F) → (⟨S8192, .i32⟩ : BufTy).Contents (Elt F)),
    binary main_v42 main_v40 main_v43 (addi : (⟨S8192, .i32⟩ : BufTy).Contents (Elt F) → (⟨S8192, .i32⟩ : BufTy).Contents (Elt F) → (⟨S8192, .i32⟩ : BufTy).Contents (Elt F)),
    binary main_v24 main_arg3 main_v44 ((fun l r => Host.dotGeneral dot_S8192x2048_S2048x512_S8192x512_1_0_0_1_n_n none l r) : (⟨S8192x2048, .f32⟩ : BufTy).Contents (Elt F) → (⟨S2048x512, .f32⟩ : BufTy).Contents (Elt F) → (⟨S8192x512, .f32⟩ : BufTy).Contents (Elt F)),
    unary main_arg4 main_v45 (broadcastInDim S1x512 ![1] bcast_S512_S1x512_1 : (⟨S512, .f32⟩ : BufTy).Contents (Elt F) → (⟨S1x512, .f32⟩ : BufTy).Contents (Elt F)),
    unary main_v45 main_v46 (broadcastInDim S8192x512 ![0, 1] bcast_S1x512_S8192x512_0_1 : (⟨S1x512, .f32⟩ : BufTy).Contents (Elt F) → (⟨S8192x512, .f32⟩ : BufTy).Contents (Elt F)),
    binary main_v44 main_v46 main_v47 (addf : (⟨S8192x512, .f32⟩ : BufTy).Contents (Elt F) → (⟨S8192x512, .f32⟩ : BufTy).Contents (Elt F) → (⟨S8192x512, .f32⟩ : BufTy).Contents (Elt F)),
    nullary main_cst_6 (constant S_ .f32 0x3F000000#32),
    unary main_cst_6 main_v48 (broadcastInDim S8192x512 ![] bcast_S_S8192x512 : (⟨S_, .f32⟩ : BufTy).Contents (Elt F) → (⟨S8192x512, .f32⟩ : BufTy).Contents (Elt F)),
    binary main_v48 main_v47 main_v49 (mulf : (⟨S8192x512, .f32⟩ : BufTy).Contents (Elt F) → (⟨S8192x512, .f32⟩ : BufTy).Contents (Elt F) → (⟨S8192x512, .f32⟩ : BufTy).Contents (Elt F)),
    unary main_v47 main_v50 (Host.negf : (⟨S8192x512, .f32⟩ : BufTy).Contents (Elt F) → (⟨S8192x512, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 90 … 119 of 241 (window `main_part1`). -/
abbrev ops_part1_0 : List (HloOp τ sig (Elt F)) :=
  [ nullary main_cst_7 (constant S_ .f32 0x3F3504F3#32),
    unary main_cst_7 main_v51 (broadcastInDim S8192x512 ![] bcast_S_S8192x512 : (⟨S_, .f32⟩ : BufTy).Contents (Elt F) → (⟨S8192x512, .f32⟩ : BufTy).Contents (Elt F)),
    binary main_v50 main_v51 main_v52 (mulf : (⟨S8192x512, .f32⟩ : BufTy).Contents (Elt F) → (⟨S8192x512, .f32⟩ : BufTy).Contents (Elt F) → (⟨S8192x512, .f32⟩ : BufTy).Contents (Elt F)),
    unary main_v52 main_v53 (Host.erfc : (⟨S8192x512, .f32⟩ : BufTy).Contents (Elt F) → (⟨S8192x512, .f32⟩ : BufTy).Contents (Elt F)),
    binary main_v49 main_v53 main_v54 (mulf : (⟨S8192x512, .f32⟩ : BufTy).Contents (Elt F) → (⟨S8192x512, .f32⟩ : BufTy).Contents (Elt F) → (⟨S8192x512, .f32⟩ : BufTy).Contents (Elt F)),
    binary main_v54 main_arg5 main_v55 ((fun l r => Host.dotGeneral dot_S8192x512_S512x2_S8192x2_1_0_0_1_n_n none l r) : (⟨S8192x512, .f32⟩ : BufTy).Contents (Elt F) → (⟨S512x2, .f32⟩ : BufTy).Contents (Elt F) → (⟨S8192x2, .f32⟩ : BufTy).Contents (Elt F)),
    unary main_arg6 main_v56 (broadcastInDim S1x2 ![1] bcast_S2_S1x2_1 : (⟨S2, .f32⟩ : BufTy).Contents (Elt F) → (⟨S1x2, .f32⟩ : BufTy).Contents (Elt F)),
    unary main_v56 main_v57 (broadcastInDim S8192x2 ![0, 1] bcast_S1x2_S8192x2_0_1 : (⟨S1x2, .f32⟩ : BufTy).Contents (Elt F) → (⟨S8192x2, .f32⟩ : BufTy).Contents (Elt F)),
    binary main_v55 main_v57 main_v58 (addf : (⟨S8192x2, .f32⟩ : BufTy).Contents (Elt F) → (⟨S8192x2, .f32⟩ : BufTy).Contents (Elt F) → (⟨S8192x2, .f32⟩ : BufTy).Contents (Elt F)),
    unary main_v58 main_v59 (Host.tanh : (⟨S8192x2, .f32⟩ : BufTy).Contents (Elt F) → (⟨S8192x2, .f32⟩ : BufTy).Contents (Elt F)),
    unary main_v59 main_v60 ((extractStridedSlice S8192x1 ![0, 0] · slices_S8192x2_S8192x1_0_0) : (⟨S8192x2, .f32⟩ : BufTy).Contents (Elt F) → (⟨S8192x1, .f32⟩ : BufTy).Contents (Elt F)),
    reshape main_v60 main_v61 (rfl : (.f32 : EltTy) = .f32) shapeCasts_S8192x1_S8192,
    unary main_v59 main_v62 ((extractStridedSlice S8192x1 ![0, 1] · slices_S8192x2_S8192x1_0_1) : (⟨S8192x2, .f32⟩ : BufTy).Contents (Elt F) → (⟨S8192x1, .f32⟩ : BufTy).Contents (Elt F)),
    reshape main_v62 main_v63 (rfl : (.f32 : EltTy) = .f32) shapeCasts_S8192x1_S8192,
    nullary main_cst_8 (constant S_ .f32 0x3F800000#32),
    unary main_cst_8 main_v64 (broadcastInDim S8192 ![] bcast_S_S8192 : (⟨S_, .f32⟩ : BufTy).Contents (Elt F) → (⟨S8192, .f32⟩ : BufTy).Contents (Elt F)),
    binary main_v61 main_v64 main_v65 (addf : (⟨S8192, .f32⟩ : BufTy).Contents (Elt F) → (⟨S8192, .f32⟩ : BufTy).Contents (Elt F) → (⟨S8192, .f32⟩ : BufTy).Contents (Elt F)),
    nullary main_cst_9 (constant S_ .f32 0x40000000#32),
    unary main_cst_9 main_v66 (broadcastInDim S8192 ![] bcast_S_S8192 : (⟨S_, .f32⟩ : BufTy).Contents (Elt F) → (⟨S8192, .f32⟩ : BufTy).Contents (Elt F)),
    binary main_v65 main_v66 main_v67 (Host.divf : (⟨S8192, .f32⟩ : BufTy).Contents (Elt F) → (⟨S8192, .f32⟩ : BufTy).Contents (Elt F) → (⟨S8192, .f32⟩ : BufTy).Contents (Elt F)),
    nullary main_cst_10 (constant S_ .f32 0x41800000#32),
    unary main_cst_10 main_v68 (broadcastInDim S8192 ![] bcast_S_S8192 : (⟨S_, .f32⟩ : BufTy).Contents (Elt F) → (⟨S8192, .f32⟩ : BufTy).Contents (Elt F)),
    binary main_v67 main_v68 main_v69 (mulf : (⟨S8192, .f32⟩ : BufTy).Contents (Elt F) → (⟨S8192, .f32⟩ : BufTy).Contents (Elt F) → (⟨S8192, .f32⟩ : BufTy).Contents (Elt F)),
    unary main_v69 main_v70 (fptosi 32 : (⟨S8192, .f32⟩ : BufTy).Contents (Elt F) → (⟨S8192, .i32⟩ : BufTy).Contents (Elt F)),
    nullary main_c_11 (constantI S_ 32 0#32),
    nullary main_c_12 (constantI S_ 32 15#32),
    TRef.unary (TRef.of (T := ⟨S_, .i32⟩) main_c_11) (TRef.of (T := ⟨S_, .i32⟩) main_call3_v0) id,
    TRef.unary (TRef.of (T := ⟨S_, .i32⟩) main_call3_v0) (TRef.of (T := ⟨S8192, .i32⟩) main_call3_v1) (broadcastInDim S8192 ![] bcast_S_S8192),
    TRef.binary (TRef.of (T := ⟨S8192, .i32⟩) main_call3_v1) (TRef.of (T := ⟨S8192, .i32⟩) main_v70) (TRef.of (T := ⟨S8192, .i32⟩) main_call3_v2) maxsi,
    TRef.unary (TRef.of (T := ⟨S_, .i32⟩) main_c_12) (TRef.of (T := ⟨S_, .i32⟩) main_call3_v3) id ]

/-- @main's operations 120 … 149 of 241 (window `main_part1`). -/
abbrev ops_part1_1 : List (HloOp τ sig (Elt F)) :=
  [ TRef.unary (TRef.of (T := ⟨S_, .i32⟩) main_call3_v3) (TRef.of (T := ⟨S8192, .i32⟩) main_call3_v4) (broadcastInDim S8192 ![] bcast_S_S8192),
    TRef.binary (TRef.of (T := ⟨S8192, .i32⟩) main_call3_v4) (TRef.of (T := ⟨S8192, .i32⟩) main_call3_v2) (TRef.of (T := ⟨S8192, .i32⟩) main_v71) minsi,
    nullary main_cst_13 (constant S_ .f32 0x3F800000#32),
    unary main_cst_13 main_v72 (broadcastInDim S8192 ![] bcast_S_S8192 : (⟨S_, .f32⟩ : BufTy).Contents (Elt F) → (⟨S8192, .f32⟩ : BufTy).Contents (Elt F)),
    binary main_v63 main_v72 main_v73 (addf : (⟨S8192, .f32⟩ : BufTy).Contents (Elt F) → (⟨S8192, .f32⟩ : BufTy).Contents (Elt F) → (⟨S8192, .f32⟩ : BufTy).Contents (Elt F)),
    nullary main_cst_14 (constant S_ .f32 0x40000000#32),
    unary main_cst_14 main_v74 (broadcastInDim S8192 ![] bcast_S_S8192 : (⟨S_, .f32⟩ : BufTy).Contents (Elt F) → (⟨S8192, .f32⟩ : BufTy).Contents (Elt F)),
    binary main_v73 main_v74 main_v75 (Host.divf : (⟨S8192, .f32⟩ : BufTy).Contents (Elt F) → (⟨S8192, .f32⟩ : BufTy).Contents (Elt F) → (⟨S8192, .f32⟩ : BufTy).Contents (Elt F)),
    nullary main_cst_15 (constant S_ .f32 0x41800000#32),
    unary main_cst_15 main_v76 (broadcastInDim S8192 ![] bcast_S_S8192 : (⟨S_, .f32⟩ : BufTy).Contents (Elt F) → (⟨S8192, .f32⟩ : BufTy).Contents (Elt F)),
    binary main_v75 main_v76 main_v77 (mulf : (⟨S8192, .f32⟩ : BufTy).Contents (Elt F) → (⟨S8192, .f32⟩ : BufTy).Contents (Elt F) → (⟨S8192, .f32⟩ : BufTy).Contents (Elt F)),
    unary main_v77 main_v78 (fptosi 32 : (⟨S8192, .f32⟩ : BufTy).Contents (Elt F) → (⟨S8192, .i32⟩ : BufTy).Contents (Elt F)),
    nullary main_c_16 (constantI S_ 32 0#32),
    nullary main_c_17 (constantI S_ 32 15#32),
    TRef.unary (TRef.of (T := ⟨S_, .i32⟩) main_c_16) (TRef.of (T := ⟨S_, .i32⟩) main_call4_v0) id,
    TRef.unary (TRef.of (T := ⟨S_, .i32⟩) main_call4_v0) (TRef.of (T := ⟨S8192, .i32⟩) main_call4_v1) (broadcastInDim S8192 ![] bcast_S_S8192),
    TRef.binary (TRef.of (T := ⟨S8192, .i32⟩) main_call4_v1) (TRef.of (T := ⟨S8192, .i32⟩) main_v78) (TRef.of (T := ⟨S8192, .i32⟩) main_call4_v2) maxsi,
    TRef.unary (TRef.of (T := ⟨S_, .i32⟩) main_c_17) (TRef.of (T := ⟨S_, .i32⟩) main_call4_v3) id,
    TRef.unary (TRef.of (T := ⟨S_, .i32⟩) main_call4_v3) (TRef.of (T := ⟨S8192, .i32⟩) main_call4_v4) (broadcastInDim S8192 ![] bcast_S_S8192),
    TRef.binary (TRef.of (T := ⟨S8192, .i32⟩) main_call4_v4) (TRef.of (T := ⟨S8192, .i32⟩) main_call4_v2) (TRef.of (T := ⟨S8192, .i32⟩) main_v79) minsi,
    nullary main_cst_18 (constant S_ .f32 0x3E99999A#32),
    unary main_cst_18 main_v80 (broadcastInDim S64x16x16x3 ![] bcast_S_S64x16x16x3 : (⟨S_, .f32⟩ : BufTy).Contents (Elt F) → (⟨S64x16x16x3, .f32⟩ : BufTy).Contents (Elt F)),
    binary main_arg8 main_v80 main_v81 (cmpf .ogt : (⟨S64x16x16x3, .f32⟩ : BufTy).Contents (Elt F) → (⟨S64x16x16x3, .f32⟩ : BufTy).Contents (Elt F) → (⟨S64x16x16x3, .i1⟩ : BufTy).Contents (Elt F)),
    nullary main_cst_19 (constant S_ .f32 0xBE99999A#32),
    unary main_cst_19 main_v82 (broadcastInDim S64x16x16x3 ![] bcast_S_S64x16x16x3 : (⟨S_, .f32⟩ : BufTy).Contents (Elt F) → (⟨S64x16x16x3, .f32⟩ : BufTy).Contents (Elt F)),
    binary main_arg8 main_v82 main_v83 (cmpf .olt : (⟨S64x16x16x3, .f32⟩ : BufTy).Contents (Elt F) → (⟨S64x16x16x3, .f32⟩ : BufTy).Contents (Elt F) → (⟨S64x16x16x3, .i1⟩ : BufTy).Contents (Elt F)),
    nullary main_cst_20 (constant S_ .f32 0xBF800000#32),
    nullary main_cst_21 (constant S_ .f32 0x00000000#32),
    TRef.unary (TRef.of (T := ⟨S_, .f32⟩) main_cst_20) (TRef.of (T := ⟨S64x16x16x3, .f32⟩) main_call5_v0) (broadcastInDim S64x16x16x3 ![] bcast_S_S64x16x16x3),
    TRef.unary (TRef.of (T := ⟨S_, .f32⟩) main_cst_21) (TRef.of (T := ⟨S64x16x16x3, .f32⟩) main_call5_v1) (broadcastInDim S64x16x16x3 ![] bcast_S_S64x16x16x3) ]

/-- @main's operations 150 … 162 of 241 (window `main_part1`). -/
abbrev ops_part1_2 : List (HloOp τ sig (Elt F)) :=
  [ TRef.ternary (TRef.of (T := ⟨S64x16x16x3, .i1⟩) main_v83) (TRef.of (T := ⟨S64x16x16x3, .f32⟩) main_call5_v0) (TRef.of (T := ⟨S64x16x16x3, .f32⟩) main_call5_v1) (TRef.of (T := ⟨S64x16x16x3, .f32⟩) main_v84) select,
    nullary main_cst_22 (constant S_ .f32 0x3F800000#32),
    TRef.unary (TRef.of (T := ⟨S_, .f32⟩) main_cst_22) (TRef.of (T := ⟨S64x16x16x3, .f32⟩) main_call6_v0) (broadcastInDim S64x16x16x3 ![] bcast_S_S64x16x16x3),
    TRef.ternary (TRef.of (T := ⟨S64x16x16x3, .i1⟩) main_v81) (TRef.of (T := ⟨S64x16x16x3, .f32⟩) main_call6_v0) (TRef.of (T := ⟨S64x16x16x3, .f32⟩) main_v84) (TRef.of (T := ⟨S64x16x16x3, .f32⟩) main_v85) select,
    unary main_v85 main_v86 (id : (⟨S64x16x16x3, .f32⟩ : BufTy).Contents (Elt F) → (⟨S64x16x16x3, .f32⟩ : BufTy).Contents (Elt F)),
    binary main_v86 main_arg8 main_v87 (subf : (⟨S64x16x16x3, .f32⟩ : BufTy).Contents (Elt F) → (⟨S64x16x16x3, .f32⟩ : BufTy).Contents (Elt F) → (⟨S64x16x16x3, .f32⟩ : BufTy).Contents (Elt F)),
    binary main_arg8 main_v87 main_v88 (addf : (⟨S64x16x16x3, .f32⟩ : BufTy).Contents (Elt F) → (⟨S64x16x16x3, .f32⟩ : BufTy).Contents (Elt F) → (⟨S64x16x16x3, .f32⟩ : BufTy).Contents (Elt F)),
    nullary main_c_23 (constantI S_ 32 0#32),
    unary main_c_23 main_v89 (broadcastInDim S8192 ![] bcast_S_S8192 : (⟨S_, .i32⟩ : BufTy).Contents (Elt F) → (⟨S8192, .i32⟩ : BufTy).Contents (Elt F)),
    binary main_v43 main_v89 main_v90 (cmpi .slt : (⟨S8192, .i32⟩ : BufTy).Contents (Elt F) → (⟨S8192, .i32⟩ : BufTy).Contents (Elt F) → (⟨S8192, .i1⟩ : BufTy).Contents (Elt F)),
    nullary main_c_24 (constantI S_ 32 64#32),
    unary main_c_24 main_v91 (broadcastInDim S8192 ![] bcast_S_S8192 : (⟨S_, .i32⟩ : BufTy).Contents (Elt F) → (⟨S8192, .i32⟩ : BufTy).Contents (Elt F)),
    binary main_v43 main_v91 main_v92 (addi : (⟨S8192, .i32⟩ : BufTy).Contents (Elt F) → (⟨S8192, .i32⟩ : BufTy).Contents (Elt F) → (⟨S8192, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 163 … 222 of 241 (window `main_part2`). -/
abbrev ops_part2 : List (HloOp τ sig (Elt F)) :=
  [ ternary main_v90 main_v92 main_v43 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_25 (constantI S_ 32 0#32),
    unary main_c_25 main_v94 (broadcastInDim S8192 ![] bcast_S_S8192 : (⟨S_, .i32⟩ : BufTy).Contents (Elt F) → (⟨S8192, .i32⟩ : BufTy).Contents (Elt F)),
    binary main_v71 main_v94 main_v95 (cmpi .slt : (⟨S8192, .i32⟩ : BufTy).Contents (Elt F) → (⟨S8192, .i32⟩ : BufTy).Contents (Elt F) → (⟨S8192, .i1⟩ : BufTy).Contents (Elt F)),
    nullary main_c_26 (constantI S_ 32 16#32),
    unary main_c_26 main_v96 (broadcastInDim S8192 ![] bcast_S_S8192 : (⟨S_, .i32⟩ : BufTy).Contents (Elt F) → (⟨S8192, .i32⟩ : BufTy).Contents (Elt F)),
    binary main_v71 main_v96 main_v97 (addi : (⟨S8192, .i32⟩ : BufTy).Contents (Elt F) → (⟨S8192, .i32⟩ : BufTy).Contents (Elt F) → (⟨S8192, .i32⟩ : BufTy).Contents (Elt F)),
    ternary main_v95 main_v97 main_v71 main_v98 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_27 (constantI S_ 32 0#32),
    unary main_c_27 main_v99 (broadcastInDim S8192 ![] bcast_S_S8192 : (⟨S_, .i32⟩ : BufTy).Contents (Elt F) → (⟨S8192, .i32⟩ : BufTy).Contents (Elt F)),
    binary main_v79 main_v99 main_v100 (cmpi .slt : (⟨S8192, .i32⟩ : BufTy).Contents (Elt F) → (⟨S8192, .i32⟩ : BufTy).Contents (Elt F) → (⟨S8192, .i1⟩ : BufTy).Contents (Elt F)),
    nullary main_c_28 (constantI S_ 32 16#32),
    unary main_c_28 main_v101 (broadcastInDim S8192 ![] bcast_S_S8192 : (⟨S_, .i32⟩ : BufTy).Contents (Elt F) → (⟨S8192, .i32⟩ : BufTy).Contents (Elt F)),
    binary main_v79 main_v101 main_v102 (addi : (⟨S8192, .i32⟩ : BufTy).Contents (Elt F) → (⟨S8192, .i32⟩ : BufTy).Contents (Elt F) → (⟨S8192, .i32⟩ : BufTy).Contents (Elt F)),
    ternary main_v100 main_v102 main_v79 main_v103 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v93 main_v104 (broadcastInDim S8192x1 ![0] bcast_S8192_S8192x1_0 : (⟨S8192, .i32⟩ : BufTy).Contents (Elt F) → (⟨S8192x1, .i32⟩ : BufTy).Contents (Elt F)),
    unary main_v98 main_v105 (broadcastInDim S8192x1 ![0] bcast_S8192_S8192x1_0 : (⟨S8192, .i32⟩ : BufTy).Contents (Elt F) → (⟨S8192x1, .i32⟩ : BufTy).Contents (Elt F)),
    unary main_v103 main_v106 (broadcastInDim S8192x1 ![0] bcast_S8192_S8192x1_0 : (⟨S8192, .i32⟩ : BufTy).Contents (Elt F) → (⟨S8192x1, .i32⟩ : BufTy).Contents (Elt F)),
    nary ![main_v104, main_v105, main_v106] main_v107 (fun u => fn_main_v107 (F := F) (u 0) (u 1) (u 2)),
    binary main_v88 main_v107 main_v108 ((fun x i => Host.gather gather_S64x16x16x3_S8192x3_S8192x3_1_012_n_n_012_1_1113 x i) : (⟨S64x16x16x3, .f32⟩ : BufTy).Contents (Elt F) → (⟨S8192x3, .i32⟩ : BufTy).Contents (Elt F) → (⟨S8192x3, .f32⟩ : BufTy).Contents (Elt F)),
    nullary main_cst_29 (constant S_ .f32 0x3F800000#32),
    unary main_cst_29 main_v109 (broadcastInDim S8192 ![] bcast_S_S8192 : (⟨S_, .f32⟩ : BufTy).Contents (Elt F) → (⟨S8192, .f32⟩ : BufTy).Contents (Elt F)),
    binary main_v61 main_v109 main_v110 (addf : (⟨S8192, .f32⟩ : BufTy).Contents (Elt F) → (⟨S8192, .f32⟩ : BufTy).Contents (Elt F) → (⟨S8192, .f32⟩ : BufTy).Contents (Elt F)),
    unary main_v71 main_v111 (sitofp .f32 : (⟨S8192, .i32⟩ : BufTy).Contents (Elt F) → (⟨S8192, .f32⟩ : BufTy).Contents (Elt F)),
    nullary main_cst_30 (constant S_ .f32 0x3E000000#32),
    unary main_cst_30 main_v112 (broadcastInDim S8192 ![] bcast_S_S8192 : (⟨S_, .f32⟩ : BufTy).Contents (Elt F) → (⟨S8192, .f32⟩ : BufTy).Contents (Elt F)),
    binary main_v111 main_v112 main_v113 (mulf : (⟨S8192, .f32⟩ : BufTy).Contents (Elt F) → (⟨S8192, .f32⟩ : BufTy).Contents (Elt F) → (⟨S8192, .f32⟩ : BufTy).Contents (Elt F)),
    binary main_v110 main_v113 main_v114 (subf : (⟨S8192, .f32⟩ : BufTy).Contents (Elt F) → (⟨S8192, .f32⟩ : BufTy).Contents (Elt F) → (⟨S8192, .f32⟩ : BufTy).Contents (Elt F)),
    nullary main_cst_31 (constant S_ .f32 0x3E000000#32),
    unary main_cst_31 main_v115 (broadcastInDim S8192 ![] bcast_S_S8192 : (⟨S_, .f32⟩ : BufTy).Contents (Elt F) → (⟨S8192, .f32⟩ : BufTy).Contents (Elt F)),
    binary main_v114 main_v115 main_v116 (Host.divf : (⟨S8192, .f32⟩ : BufTy).Contents (Elt F) → (⟨S8192, .f32⟩ : BufTy).Contents (Elt F) → (⟨S8192, .f32⟩ : BufTy).Contents (Elt F)),
    nullary main_cst_32 (constant S_ .f32 0x3F800000#32),
    unary main_cst_32 main_v117 (broadcastInDim S8192 ![] bcast_S_S8192 : (⟨S_, .f32⟩ : BufTy).Contents (Elt F) → (⟨S8192, .f32⟩ : BufTy).Contents (Elt F)),
    binary main_v63 main_v117 main_v118 (addf : (⟨S8192, .f32⟩ : BufTy).Contents (Elt F) → (⟨S8192, .f32⟩ : BufTy).Contents (Elt F) → (⟨S8192, .f32⟩ : BufTy).Contents (Elt F)),
    unary main_v79 main_v119 (sitofp .f32 : (⟨S8192, .i32⟩ : BufTy).Contents (Elt F) → (⟨S8192, .f32⟩ : BufTy).Contents (Elt F)),
    nullary main_cst_33 (constant S_ .f32 0x3E000000#32),
    unary main_cst_33 main_v120 (broadcastInDim S8192 ![] bcast_S_S8192 : (⟨S_, .f32⟩ : BufTy).Contents (Elt F) → (⟨S8192, .f32⟩ : BufTy).Contents (Elt F)),
    binary main_v119 main_v120 main_v121 (mulf : (⟨S8192, .f32⟩ : BufTy).Contents (Elt F) → (⟨S8192, .f32⟩ : BufTy).Contents (Elt F) → (⟨S8192, .f32⟩ : BufTy).Contents (Elt F)),
    binary main_v118 main_v121 main_v122 (subf : (⟨S8192, .f32⟩ : BufTy).Contents (Elt F) → (⟨S8192, .f32⟩ : BufTy).Contents (Elt F) → (⟨S8192, .f32⟩ : BufTy).Contents (Elt F)),
    nullary main_cst_34 (constant S_ .f32 0x3E000000#32),
    unary main_cst_34 main_v123 (broadcastInDim S8192 ![] bcast_S_S8192 : (⟨S_, .f32⟩ : BufTy).Contents (Elt F) → (⟨S8192, .f32⟩ : BufTy).Contents (Elt F)),
    binary main_v122 main_v123 main_v124 (Host.divf : (⟨S8192, .f32⟩ : BufTy).Contents (Elt F) → (⟨S8192, .f32⟩ : BufTy).Contents (Elt F) → (⟨S8192, .f32⟩ : BufTy).Contents (Elt F)),
    unary main_v108 main_v125 ((extractStridedSlice S8192x1 ![0, 0] · slices_S8192x3_S8192x1_0_0) : (⟨S8192x3, .f32⟩ : BufTy).Contents (Elt F) → (⟨S8192x1, .f32⟩ : BufTy).Contents (Elt F)),
    reshape main_v125 main_v126 (rfl : (.f32 : EltTy) = .f32) shapeCasts_S8192x1_S8192,
    unary main_v108 main_v127 ((extractStridedSlice S8192x1 ![0, 1] · slices_S8192x3_S8192x1_0_1) : (⟨S8192x3, .f32⟩ : BufTy).Contents (Elt F) → (⟨S8192x1, .f32⟩ : BufTy).Contents (Elt F)),
    reshape main_v127 main_v128 (rfl : (.f32 : EltTy) = .f32) shapeCasts_S8192x1_S8192,
    binary main_v128 main_v116 main_v129 (mulf : (⟨S8192, .f32⟩ : BufTy).Contents (Elt F) → (⟨S8192, .f32⟩ : BufTy).Contents (Elt F) → (⟨S8192, .f32⟩ : BufTy).Contents (Elt F)),
    binary main_v126 main_v129 main_v130 (addf : (⟨S8192, .f32⟩ : BufTy).Contents (Elt F) → (⟨S8192, .f32⟩ : BufTy).Contents (Elt F) → (⟨S8192, .f32⟩ : BufTy).Contents (Elt F)),
    unary main_v108 main_v131 ((extractStridedSlice S8192x1 ![0, 2] · slices_S8192x3_S8192x1_0_2) : (⟨S8192x3, .f32⟩ : BufTy).Contents (Elt F) → (⟨S8192x1, .f32⟩ : BufTy).Contents (Elt F)),
    reshape main_v131 main_v132 (rfl : (.f32 : EltTy) = .f32) shapeCasts_S8192x1_S8192,
    binary main_v132 main_v124 main_v133 (mulf : (⟨S8192, .f32⟩ : BufTy).Contents (Elt F) → (⟨S8192, .f32⟩ : BufTy).Contents (Elt F) → (⟨S8192, .f32⟩ : BufTy).Contents (Elt F)),
    binary main_v130 main_v133 main_v134 (addf : (⟨S8192, .f32⟩ : BufTy).Contents (Elt F) → (⟨S8192, .f32⟩ : BufTy).Contents (Elt F) → (⟨S8192, .f32⟩ : BufTy).Contents (Elt F)),
    nullary main_c_35 (constantI S_ 32 0#32),
    unary main_c_35 main_v135 (broadcastInDim S8192 ![] bcast_S_S8192 : (⟨S_, .i32⟩ : BufTy).Contents (Elt F) → (⟨S8192, .i32⟩ : BufTy).Contents (Elt F)),
    binary main_v43 main_v135 main_v136 (cmpi .slt : (⟨S8192, .i32⟩ : BufTy).Contents (Elt F) → (⟨S8192, .i32⟩ : BufTy).Contents (Elt F) → (⟨S8192, .i1⟩ : BufTy).Contents (Elt F)),
    nullary main_c_36 (constantI S_ 32 64#32),
    unary main_c_36 main_v137 (broadcastInDim S8192 ![] bcast_S_S8192 : (⟨S_, .i32⟩ : BufTy).Contents (Elt F) → (⟨S8192, .i32⟩ : BufTy).Contents (Elt F)),
    binary main_v43 main_v137 main_v138 (addi : (⟨S8192, .i32⟩ : BufTy).Contents (Elt F) → (⟨S8192, .i32⟩ : BufTy).Contents (Elt F) → (⟨S8192, .i32⟩ : BufTy).Contents (Elt F)),
    ternary main_v136 main_v138 main_v43 main_v139 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v139 main_v140 (broadcastInDim S8192x1 ![0] bcast_S8192_S8192x1_0 : (⟨S8192, .i32⟩ : BufTy).Contents (Elt F) → (⟨S8192x1, .i32⟩ : BufTy).Contents (Elt F)) ]

/-- @main's operations 223 … 241 of 241 (window `main_part3`). -/
abbrev ops_part3 : List (HloOp τ sig (Elt F)) :=
  [ binary main_arg9 main_v140 main_v141 ((fun x i => Host.gather gather_S64_S8192x1_S8192_n_0_n_n_0_1_1 x i) : (⟨S64, .f32⟩ : BufTy).Contents (Elt F) → (⟨S8192x1, .i32⟩ : BufTy).Contents (Elt F) → (⟨S8192, .f32⟩ : BufTy).Contents (Elt F)),
    binary main_v134 main_v141 main_v142 (mulf : (⟨S8192, .f32⟩ : BufTy).Contents (Elt F) → (⟨S8192, .f32⟩ : BufTy).Contents (Elt F) → (⟨S8192, .f32⟩ : BufTy).Contents (Elt F)),
    unary main_v142 main_v143 (broadcastInDim S8192x1 ![0] bcast_S8192_S8192x1_0 : (⟨S8192, .f32⟩ : BufTy).Contents (Elt F) → (⟨S8192x1, .f32⟩ : BufTy).Contents (Elt F)),
    nullary main_c_37 (constantI S_ 32 0#32),
    unary main_c_37 main_v144 (broadcastInDim S8192 ![] bcast_S_S8192 : (⟨S_, .i32⟩ : BufTy).Contents (Elt F) → (⟨S8192, .i32⟩ : BufTy).Contents (Elt F)),
    binary main_v43 main_v144 main_v145 (cmpi .slt : (⟨S8192, .i32⟩ : BufTy).Contents (Elt F) → (⟨S8192, .i32⟩ : BufTy).Contents (Elt F) → (⟨S8192, .i1⟩ : BufTy).Contents (Elt F)),
    nullary main_c_38 (constantI S_ 32 64#32),
    unary main_c_38 main_v146 (broadcastInDim S8192 ![] bcast_S_S8192 : (⟨S_, .i32⟩ : BufTy).Contents (Elt F) → (⟨S8192, .i32⟩ : BufTy).Contents (Elt F)),
    binary main_v43 main_v146 main_v147 (addi : (⟨S8192, .i32⟩ : BufTy).Contents (Elt F) → (⟨S8192, .i32⟩ : BufTy).Contents (Elt F) → (⟨S8192, .i32⟩ : BufTy).Contents (Elt F)),
    ternary main_v145 main_v147 main_v43 main_v148 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v148 main_v149 (broadcastInDim S8192x1 ![0] bcast_S8192_S8192x1_0 : (⟨S8192, .i32⟩ : BufTy).Contents (Elt F) → (⟨S8192x1, .i32⟩ : BufTy).Contents (Elt F)),
    binary main_arg7 main_v149 main_v150 ((fun x i => Host.gather gather_S64x2048_S8192x1_S8192x2048_1_0_n_n_0_1_12048 x i) : (⟨S64x2048, .f32⟩ : BufTy).Contents (Elt F) → (⟨S8192x1, .i32⟩ : BufTy).Contents (Elt F) → (⟨S8192x2048, .f32⟩ : BufTy).Contents (Elt F)),
    unary main_v143 main_v151 (broadcastInDim S8192x2048 ![0, 1] bcast_S8192x1_S8192x2048_0_1 : (⟨S8192x1, .f32⟩ : BufTy).Contents (Elt F) → (⟨S8192x2048, .f32⟩ : BufTy).Contents (Elt F)),
    binary main_v151 main_v150 main_v152 (mulf : (⟨S8192x2048, .f32⟩ : BufTy).Contents (Elt F) → (⟨S8192x2048, .f32⟩ : BufTy).Contents (Elt F) → (⟨S8192x2048, .f32⟩ : BufTy).Contents (Elt F)),
    reshape main_v152 main_v153 (rfl : (.f32 : EltTy) = .f32) shapeCasts_S8192x2048_S4x2048x2048,
    unary main_arg10 main_v154 (broadcastInDim S1x1x1 ![2] bcast_S1_S1x1x1_2 : (⟨S1, .f32⟩ : BufTy).Contents (Elt F) → (⟨S1x1x1, .f32⟩ : BufTy).Contents (Elt F)),
    unary main_v154 main_v155 (broadcastInDim S4x2048x2048 ![0, 1, 2] bcast_S1x1x1_S4x2048x2048_0_1_2 : (⟨S1x1x1, .f32⟩ : BufTy).Contents (Elt F) → (⟨S4x2048x2048, .f32⟩ : BufTy).Contents (Elt F)),
    binary main_v153 main_v155 main_v156 (mulf : (⟨S4x2048x2048, .f32⟩ : BufTy).Contents (Elt F) → (⟨S4x2048x2048, .f32⟩ : BufTy).Contents (Elt F) → (⟨S4x2048x2048, .f32⟩ : BufTy).Contents (Elt F)),
    binary main_arg0 main_v156 main_v157 (addf : (⟨S4x2048x2048, .f32⟩ : BufTy).Contents (Elt F) → (⟨S4x2048x2048, .f32⟩ : BufTy).Contents (Elt F) → (⟨S4x2048x2048, .f32⟩ : BufTy).Contents (Elt F)) ]

/-- @main's 241 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., nullary_bufs_sub .., nullary_bufs_sub .., quaternary_bufs_sub .., quaternary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., unary_bufs_sub .., binary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., nullary_bufs_sub .., unary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., reshape_bufs_sub .., unary_bufs_sub .., unary_bufs_sub .., binary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_fresh op h]

set_option maxRecDepth 8192 in
/-- `main_v3`'s composed term of the arguments (named: it is used 2 times). -/
def res_main_v3 (V0 : Valuation τ sig (Elt F)) : (Proc.devRef .tc main_v3 : DevRef τ sig).ty.Contents (Elt F) :=
  Host.divf (broadcastInDim S4x2048x1 ![0, 1] bcast_S4x2048_S4x2048x1_0_1 (Host.reduceAdd (V0 (Proc.devRef .tc main_arg0)) (constant S_ .f32 0x00000000#32) reducesTo_S4x2048x2048_S4x2048_d2 h_S_)) (broadcastInDim S4x2048x1 ![] bcast_S_S4x2048x1 (constant S_ .f32 0x45000000#32))

set_option maxRecDepth 8192 in
/-- `main_v5`'s composed term of the arguments (named: it is used 2 times). -/
def res_main_v5 (V0 : Valuation τ sig (Elt F)) : (Proc.devRef .tc main_v5 : DevRef τ sig).ty.Contents (Elt F) :=
  subf (V0 (Proc.devRef .tc main_arg0)) (broadcastInDim S4x2048x2048 ![0, 1, 2] bcast_S4x2048x1_S4x2048x2048_0_1_2 (res_main_v3 V0))

set_option maxRecDepth 8192 in
/-- `main_v24`'s composed term of the arguments (named: it is used 3 times). -/
def res_main_v24 (V0 : Valuation τ sig (Elt F)) : (Proc.devRef .tc main_v24 : DevRef τ sig).ty.Contents (Elt F) :=
  shapeCast _ (addf (mulf (Host.divf (subf (V0 (Proc.devRef .tc main_arg0)) (broadcastInDim S4x2048x2048 ![0, 1, 2] bcast_S4x2048x1_S4x2048x2048_0_1_2 (res_main_v3 V0))) (broadcastInDim S4x2048x2048 ![0, 1, 2] bcast_S4x2048x1_S4x2048x2048_0_1_2 (Host.sqrt (addf (Host.divf (broadcastInDim S4x2048x1 ![0, 1] bcast_S4x2048_S4x2048x1_0_1 (Host.reduceAdd (mulf (res_main_v5 V0) (res_main_v5 V0)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x3727C5AC#32)))))) (broadcastInDim S4x2048x2048 ![0, 1, 2] bcast_S1x1x2048_S4x2048x2048_0_1_2 (broadcastInDim S1x1x2048 ![2] bcast_S2048_S1x1x2048_2 (V0 (Proc.devRef .tc main_arg1))))) (broadcastInDim S4x2048x2048 ![0, 1, 2] bcast_S1x1x2048_S4x2048x2048_0_1_2 (broadcastInDim S1x1x2048 ![2] bcast_S2048_S1x1x2048_2 (V0 (Proc.devRef .tc main_arg2))))) shapeCasts_S4x2048x2048_S8192x2048

set_option maxRecDepth 8192 in
/-- `main_v25`'s composed term of the arguments (named: it is used 2 times). -/
def res_main_v25 (V0 : Valuation τ sig (Elt F)) : (Proc.devRef .tc main_v25 : DevRef τ sig).ty.Contents (Elt F) :=
  Host.sign (V0 (Proc.devRef .tc main_arg7))

set_option maxRecDepth 8192 in
/-- `main_v32`'s composed term of the arguments (named: it is used 2 times). -/
def res_main_v32 (V0 : Valuation τ sig (Elt F)) : (Proc.devRef .tc main_v32 : DevRef τ sig).ty.Contents (Elt F) :=
  Host.dotGeneral dot_S8192x2048_S2048x8_S8192x8_1_0_0_1_n_n none (res_main_v24 V0) (transpose S2048x8 [1, 0] (Host.sign (Host.divf (Host.reduceAdd (shapeCast _ (res_main_v25 V0) shapeCasts_S64x2048_S8x8x2048) (constant S_ .f32 0x00000000#32) reducesTo_S8x8x2048_S8x2048_d1 h_S_) (broadcastInDim S8x2048 ![] bcast_S_S8x2048 (constant S_ .f32 0x41000000#32)))) transposes_S8x2048_S2048x8_1_0)

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S8192x8 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v33`'s composed term of the arguments (named: it is used 2 times). -/
def res_main_v33 (V0 : Valuation τ sig (Elt F)) : (Proc.devRef .tc main_v33 : DevRef τ sig).ty.Contents (Elt F) :=
  (fun j => (Host.argReduce reducer_argmax_f32_i32 (res_main_v32 V0) (res_main_call0_v0 V0) (res_main_call0_cst V0) (res_main_call0_c V0) reducesTo_S8192x8_S8192_d1 h_S_ j).2)

set_option maxRecDepth 8192 in
/-- `main_v37`'s composed term of the arguments (named: it is used 3 times). -/
def res_main_v37 (V0 : Valuation τ sig (Elt F)) : (Proc.devRef .tc main_v37 : DevRef τ sig).ty.Contents (Elt F) :=
  broadcastInDim S8192x1x1 ![0] bcast_S8192_S8192x1x1_0 (res_main_v33 V0)

set_option maxRecDepth 8192 in
/-- `main_call1_v4`'s composed term of the arguments (named: it is used 3 times). -/
def res_main_call1_v4 (V0 : Valuation τ sig (Elt F)) : (Proc.devRef .tc main_call1_v4 : DevRef τ sig).ty.Contents (Elt F) :=
  select (cmpi .slt (res_main_v37 V0) (broadcastInDim S8192x1x1 ![] bcast_S_S8192x1x1 (constantI S_ 32 0#32))) (addi (res_main_v37 V0) (broadcastInDim S8192x1x1 ![] bcast_S_S8192x1x1 (constantI S_ 32 8#32))) (res_main_v37 V0)

set_option maxRecDepth 8192 in
/-- `main_v39`'s composed term of the arguments (named: it is used 2 times). -/
def res_main_v39 (V0 : Valuation τ sig (Elt F)) : (Proc.devRef .tc main_v39 : DevRef τ sig).ty.Contents (Elt F) :=
  shapeCast _ (select (broadcastInDim S8192x1x8 ![0, 1] bcast_S8192x1_S8192x1x8_0_1 (Host.reduce IntOp.andi (andi (cmpi .sge (res_main_call1_v4 V0) (broadcastInDim S8192x1x1 ![] bcast_S_S8192x1x1 (constantI S_ 32 0#32))) (cmpi .sle (res_main_call1_v4 V0) (broadcastInDim S8192x1x1 ![0, 1, 2] bcast_S1x1x1_S8192x1x1_0_1_2 (broadcastInDim S1x1x1 ![2] bcast_S1_S1x1x1_2 (constantI S1 32 7#32))))) (constantI S_ 1 1#1) reducesTo_S8192x1x1_S8192x1_d2 h_S_)) (Host.gather gather_S8192x8x8_S8192x1x1_S8192x1x8_2_1_0_0_1_2_118 (shapeCast _ (Host.dotGeneral dot_S8192x2048_S2048x64_S8192x64_1_0_0_1_n_n none (res_main_v24 V0) (transpose S2048x64 [1, 0] (res_main_v25 V0) transposes_S64x2048_S2048x64_1_0)) shapeCasts_S8192x64_S8192x8x8) (res_main_call1_v4 V0)) (broadcastInDim S8192x1x8 ![] bcast_S_S8192x1x8 (constant S_ .f32 0x7FC00000#32))) shapeCasts_S8192x1x8_S8192x8

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S8192x8 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v43`'s composed term of the arguments (named: it is used 9 times). -/
def res_main_v43 (V0 : Valuation τ sig (Elt F)) : (Proc.devRef .tc main_v43 : DevRef τ sig).ty.Contents (Elt F) :=
  addi (muli (res_main_v33 V0) (broadcastInDim S8192 ![] bcast_S_S8192 (constantI S_ 32 8#32))) ((fun j => (Host.argReduce reducer_argmax_f32_i32 (res_main_v39 V0) (res_main_call2_v0 V0) (res_main_call2_cst V0) (res_main_call2_c V0) reducesTo_S8192x8_S8192_d1 h_S_ j).2))

set_option maxRecDepth 8192 in
/-- `main_v47`'s composed term of the arguments (named: it is used 2 times). -/
def res_main_v47 (V0 : Valuation τ sig (Elt F)) : (Proc.devRef .tc main_v47 : DevRef τ sig).ty.Contents (Elt F) :=
  addf (Host.dotGeneral dot_S8192x2048_S2048x512_S8192x512_1_0_0_1_n_n none (res_main_v24 V0) (V0 (Proc.devRef .tc main_arg3))) (broadcastInDim S8192x512 ![0, 1] bcast_S1x512_S8192x512_0_1 (broadcastInDim S1x512 ![1] bcast_S512_S1x512_1 (V0 (Proc.devRef .tc main_arg4))))

set_option maxRecDepth 8192 in
/-- `main_v59`'s composed term of the arguments (named: it is used 2 times). -/
def res_main_v59 (V0 : Valuation τ sig (Elt F)) : (Proc.devRef .tc main_v59 : DevRef τ sig).ty.Contents (Elt F) :=
  Host.tanh (addf (Host.dotGeneral dot_S8192x512_S512x2_S8192x2_1_0_0_1_n_n none (mulf (mulf (broadcastInDim S8192x512 ![] bcast_S_S8192x512 (constant S_ .f32 0x3F000000#32)) (res_main_v47 V0)) (Host.erfc (mulf (Host.negf (res_main_v47 V0)) (broadcastInDim S8192x512 ![] bcast_S_S8192x512 (constant S_ .f32 0x3F3504F3#32))))) (V0 (Proc.devRef .tc main_arg5))) (broadcastInDim S8192x2 ![0, 1] bcast_S1x2_S8192x2_0_1 (broadcastInDim S1x2 ![1] bcast_S2_S1x2_1 (V0 (Proc.devRef .tc main_arg6)))))

set_option maxRecDepth 8192 in
/-- `main_v61`'s composed term of the arguments (named: it is used 2 times). -/
def res_main_v61 (V0 : Valuation τ sig (Elt F)) : (Proc.devRef .tc main_v61 : DevRef τ sig).ty.Contents (Elt F) :=
  shapeCast _ (extractStridedSlice S8192x1 ![0, 0] (res_main_v59 V0) slices_S8192x2_S8192x1_0_0) shapeCasts_S8192x1_S8192

set_option maxRecDepth 8192 in
/-- `main_v63`'s composed term of the arguments (named: it is used 2 times). -/
def res_main_v63 (V0 : Valuation τ sig (Elt F)) : (Proc.devRef .tc main_v63 : DevRef τ sig).ty.Contents (Elt F) :=
  shapeCast _ (extractStridedSlice S8192x1 ![0, 1] (res_main_v59 V0) slices_S8192x2_S8192x1_0_1) shapeCasts_S8192x1_S8192

set_option maxRecDepth 8192 in
/-- `main_v71`'s composed term of the arguments (named: it is used 4 times). -/
def res_main_v71 (V0 : Valuation τ sig (Elt F)) : (Proc.devRef .tc main_v71 : DevRef τ sig).ty.Contents (Elt F) :=
  minsi (broadcastInDim S8192 ![] bcast_S_S8192 (id (constantI S_ 32 15#32))) (maxsi (broadcastInDim S8192 ![] bcast_S_S8192 (id (constantI S_ 32 0#32))) (fptosi 32 (mulf (Host.divf (addf (res_main_v61 V0) (broadcastInDim S8192 ![] bcast_S_S8192 (constant S_ .f32 0x3F800000#32))) (broadcastInDim S8192 ![] bcast_S_S8192 (constant S_ .f32 0x40000000#32))) (broadcastInDim S8192 ![] bcast_S_S8192 (constant S_ .f32 0x41800000#32)))))

set_option maxRecDepth 8192 in
/-- `main_v79`'s composed term of the arguments (named: it is used 4 times). -/
def res_main_v79 (V0 : Valuation τ sig (Elt F)) : (Proc.devRef .tc main_v79 : DevRef τ sig).ty.Contents (Elt F) :=
  minsi (broadcastInDim S8192 ![] bcast_S_S8192 (id (constantI S_ 32 15#32))) (maxsi (broadcastInDim S8192 ![] bcast_S_S8192 (id (constantI S_ 32 0#32))) (fptosi 32 (mulf (Host.divf (addf (res_main_v63 V0) (broadcastInDim S8192 ![] bcast_S_S8192 (constant S_ .f32 0x3F800000#32))) (broadcastInDim S8192 ![] bcast_S_S8192 (constant S_ .f32 0x40000000#32))) (broadcastInDim S8192 ![] bcast_S_S8192 (constant S_ .f32 0x41800000#32)))))

set_option maxRecDepth 8192 in
/-- `main_v108`'s composed term of the arguments (named: it is used 3 times). -/
def res_main_v108 (V0 : Valuation τ sig (Elt F)) : (Proc.devRef .tc main_v108 : DevRef τ sig).ty.Contents (Elt F) :=
  Host.gather gather_S64x16x16x3_S8192x3_S8192x3_1_012_n_n_012_1_1113 (addf (V0 (Proc.devRef .tc main_arg8)) (subf (id (select (cmpf .ogt (V0 (Proc.devRef .tc main_arg8)) (broadcastInDim S64x16x16x3 ![] bcast_S_S64x16x16x3 (constant S_ .f32 0x3E99999A#32))) (broadcastInDim S64x16x16x3 ![] bcast_S_S64x16x16x3 (constant S_ .f32 0x3F800000#32)) (select (cmpf .olt (V0 (Proc.devRef .tc main_arg8)) (broadcastInDim S64x16x16x3 ![] bcast_S_S64x16x16x3 (constant S_ .f32 0xBE99999A#32))) (broadcastInDim S64x16x16x3 ![] bcast_S_S64x16x16x3 (constant S_ .f32 0xBF800000#32)) (broadcastInDim S64x16x16x3 ![] bcast_S_S64x16x16x3 (constant S_ .f32 0x00000000#32))))) (V0 (Proc.devRef .tc main_arg8)))) ((concatenate S8192x3 1 [⟨S8192x1, ((broadcastInDim S8192x1 ![0] bcast_S8192_S8192x1_0 (select (cmpi .slt (res_main_v43 V0) (broadcastInDim S8192 ![] bcast_S_S8192 (constantI S_ 32 0#32))) (addi (res_main_v43 V0) (broadcastInDim S8192 ![] bcast_S_S8192 (constantI S_ 32 64#32))) (res_main_v43 V0))) : (⟨S8192x1, .i32⟩ : BufTy).Contents (Elt F))⟩, ⟨S8192x1, ((broadcastInDim S8192x1 ![0] bcast_S8192_S8192x1_0 (select (cmpi .slt (res_main_v71 V0) (broadcastInDim S8192 ![] bcast_S_S8192 (constantI S_ 32 0#32))) (addi (res_main_v71 V0) (broadcastInDim S8192 ![] bcast_S_S8192 (constantI S_ 32 16#32))) (res_main_v71 V0))) : (⟨S8192x1, .i32⟩ : BufTy).Contents (Elt F))⟩, ⟨S8192x1, ((broadcastInDim S8192x1 ![0] bcast_S8192_S8192x1_0 (select (cmpi .slt (res_main_v79 V0) (broadcastInDim S8192 ![] bcast_S_S8192 (constantI S_ 32 0#32))) (addi (res_main_v79 V0) (broadcastInDim S8192 ![] bcast_S_S8192 (constantI S_ 32 16#32))) (res_main_v79 V0))) : (⟨S8192x1, .i32⟩ : BufTy).Contents (Elt F))⟩] concatenates_S8192x1_S8192x1_S8192x1_S8192x3_d1 : (⟨S8192x3, .i32⟩ : BufTy).Contents (Elt F)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23, main_v24]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
set_option maxRecDepth 8192 in
set_option maxHeartbeats 2000000 in
theorem val0_1_main_v24 (V0 : Valuation τ sig (Elt F)) : val0_1 V0 (no_index (Proc.devRef .tc main_v24)) = res_main_v24 V0 := by
  unfold val0_1
  simp only [ops_part0_0]
  after_results_simp
  simp only [val0_main_arg2, val0_main_arg1, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v25, main_v26, main_cst_4, main_v27, main_cst_5, main_v28, main_v29, main_v30, main_v31, main_v32, main_call0_v0, main_call0_cst, main_call0_c, main_call0_v1_0, main_v33, main_v34, main_v35, main_v36, main_v37, main_call1_c, main_call1_v0, main_call1_v1, main_call1_c_0, main_call1_v2, main_call1_v3, main_call1_v4, main_call1_c_1, main_call1_c_2, main_call1_v5, main_call1_v6]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_v24 (V0 : Valuation τ sig (Elt F)) : val0_2 V0 (no_index (Proc.devRef .tc main_v24)) = res_main_v24 V0 :=
  (val0_2_keep V0 main_v24 (by decide)).trans (val0_1_main_v24 V0)
set_option maxRecDepth 8192 in
set_option maxHeartbeats 2000000 in
theorem val0_2_main_v33 (V0 : Valuation τ sig (Elt F)) : val0_2 V0 (no_index (Proc.devRef .tc main_v33)) = res_main_v33 V0 := by
  unfold val0_2
  simp only [ops_part0_1, TRef.binary, TRef.nullary, TRef.quaternary, TRef.ternary, TRef.unary, TRef.toBuf, TRef.ofBuf, cast_eq]
  after_results_simp
  simp only [val0_1_main_arg7, val0_1_main_v24] <;> rfl
set_option maxRecDepth 8192 in
set_option maxHeartbeats 2000000 in
theorem val0_2_main_v36 (V0 : Valuation τ sig (Elt F)) : val0_2 V0 (no_index (Proc.devRef .tc main_v36)) = shapeCast _ (Host.dotGeneral dot_S8192x2048_S2048x64_S8192x64_1_0_0_1_n_n none (res_main_v24 V0) (transpose S2048x64 [1, 0] (res_main_v25 V0) transposes_S64x2048_S2048x64_1_0)) shapeCasts_S8192x64_S8192x8x8 := by
  unfold val0_2
  simp only [ops_part0_1, TRef.binary, TRef.nullary, TRef.quaternary, TRef.ternary, TRef.unary, TRef.toBuf, TRef.ofBuf, cast_eq]
  after_results_simp
  simp only [val0_1_main_arg7, val0_1_main_v24] <;> rfl
set_option maxRecDepth 8192 in
set_option maxHeartbeats 2000000 in
theorem val0_2_main_call1_v4 (V0 : Valuation τ sig (Elt F)) : val0_2 V0 (no_index (Proc.devRef .tc main_call1_v4)) = res_main_call1_v4 V0 := by
  unfold val0_2
  simp only [ops_part0_1, TRef.binary, TRef.nullary, TRef.quaternary, TRef.ternary, TRef.unary, TRef.toBuf, TRef.ofBuf, cast_eq]
  after_results_simp
  simp only [val0_1_main_arg7, val0_1_main_v24] <;> rfl
set_option maxRecDepth 8192 in
set_option maxHeartbeats 2000000 in
theorem val0_2_main_call1_c_1 (V0 : Valuation τ sig (Elt F)) : val0_2 V0 (no_index (Proc.devRef .tc main_call1_c_1)) = constantI S1 32 7#32 := by
  unfold val0_2
  simp only [ops_part0_1, TRef.binary, TRef.nullary, TRef.quaternary, TRef.ternary, TRef.unary, TRef.toBuf, TRef.ofBuf, cast_eq]
  after_results_simp
  all_goals rfl
set_option maxRecDepth 8192 in
set_option maxHeartbeats 2000000 in
theorem val0_2_main_call1_v6 (V0 : Valuation τ sig (Elt F)) : val0_2 V0 (no_index (Proc.devRef .tc main_call1_v6)) = cmpi .sge (res_main_call1_v4 V0) (broadcastInDim S8192x1x1 ![] bcast_S_S8192x1x1 (constantI S_ 32 0#32)) := by
  unfold val0_2
  simp only [ops_part0_1, TRef.binary, TRef.nullary, TRef.quaternary, TRef.ternary, TRef.unary, TRef.toBuf, TRef.ofBuf, cast_eq]
  after_results_simp
  simp only [val0_1_main_arg7, val0_1_main_v24] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call1_v7, main_call1_v8, main_call1_v9, main_call1_v10, main_call1_c_3, main_call1_v11, main_call1_v12, main_call1_v13, main_call1_cst, main_call1_v14, main_v38, main_v39, main_call2_v0, main_call2_cst, main_call2_c, main_call2_v1_0, main_v40, main_c, main_v41, main_v42, main_v43, main_v44, main_v45, main_v46, main_v47, main_cst_6, main_v48, main_v49, main_v50]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
set_option maxRecDepth 8192 in
set_option maxHeartbeats 2000000 in
theorem val1_main_v43 (V0 : Valuation τ sig (Elt F)) : val1 V0 (no_index (Proc.devRef .tc main_v43)) = res_main_v43 V0 := by
  unfold val1
  simp only [ops_part0_2, TRef.binary, TRef.nullary, TRef.quaternary, TRef.ternary, TRef.unary, TRef.toBuf, TRef.ofBuf, cast_eq]
  after_results_simp
  simp only [val0_2_main_call1_v4, val0_2_main_v36, val0_2_main_call1_c_1, val0_2_main_call1_v6, val0_2_main_v33] <;> rfl
set_option maxRecDepth 8192 in
set_option maxHeartbeats 2000000 in
theorem val1_main_v49 (V0 : Valuation τ sig (Elt F)) : val1 V0 (no_index (Proc.devRef .tc main_v49)) = mulf (broadcastInDim S8192x512 ![] bcast_S_S8192x512 (constant S_ .f32 0x3F000000#32)) (res_main_v47 V0) := by
  unfold val1
  simp only [ops_part0_2, TRef.binary, TRef.nullary, TRef.quaternary, TRef.ternary, TRef.unary, TRef.toBuf, TRef.ofBuf, cast_eq]
  after_results_simp
  simp only [val0_2_main_arg4, val0_2_main_arg3, val0_2_main_v24] <;> rfl
set_option maxRecDepth 8192 in
set_option maxHeartbeats 2000000 in
theorem val1_main_v50 (V0 : Valuation τ sig (Elt F)) : val1 V0 (no_index (Proc.devRef .tc main_v50)) = Host.negf (res_main_v47 V0) := by
  unfold val1
  simp only [ops_part0_2, TRef.binary, TRef.nullary, TRef.quaternary, TRef.ternary, TRef.unary, TRef.toBuf, TRef.ofBuf, cast_eq]
  after_results_simp
  simp only [val0_2_main_arg4, val0_2_main_arg3, val0_2_main_v24] <;> rfl

/-- The device's buffer contents after @main's first 119 operations. -/
def val1_1 (V0 : Valuation τ sig (Elt F)) : Valuation τ sig (Elt F) := after ops_part1_0 (val1 V0)
/-- The buffers that window `ops_part1_0`'s operations write. -/
abbrev ops_part1_0_W : List (Ref sig .tc) := [main_cst_7, main_v51, main_v52, main_v53, main_v54, main_v55, main_v56, main_v57, main_v58, main_v59, main_v60, main_v61, main_v62, main_v63, main_cst_8, main_v64, main_v65, main_cst_9, main_v66, main_v67, main_cst_10, main_v68, main_v69, main_v70, main_c_11, main_c_12, main_call3_v0, main_call3_v1, main_call3_v2, main_call3_v3]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_v43 (V0 : Valuation τ sig (Elt F)) : val1_1 V0 (no_index (Proc.devRef .tc main_v43)) = res_main_v43 V0 :=
  (val1_1_keep V0 main_v43 (by decide)).trans (val1_main_v43 V0)
set_option maxRecDepth 8192 in
set_option maxHeartbeats 2000000 in
theorem val1_1_main_v61 (V0 : Valuation τ sig (Elt F)) : val1_1 V0 (no_index (Proc.devRef .tc main_v61)) = res_main_v61 V0 := by
  unfold val1_1
  simp only [ops_part1_0, TRef.binary, TRef.unary, TRef.toBuf, TRef.ofBuf, cast_eq]
  after_results_simp
  simp only [val1_main_arg6, val1_main_arg5, val1_main_v50, val1_main_v49] <;> rfl
set_option maxRecDepth 8192 in
set_option maxHeartbeats 2000000 in
theorem val1_1_main_v63 (V0 : Valuation τ sig (Elt F)) : val1_1 V0 (no_index (Proc.devRef .tc main_v63)) = res_main_v63 V0 := by
  unfold val1_1
  simp only [ops_part1_0, TRef.binary, TRef.unary, TRef.toBuf, TRef.ofBuf, cast_eq]
  after_results_simp
  simp only [val1_main_arg6, val1_main_arg5, val1_main_v50, val1_main_v49] <;> rfl
set_option maxRecDepth 8192 in
set_option maxHeartbeats 2000000 in
theorem val1_1_main_call3_v2 (V0 : Valuation τ sig (Elt F)) : val1_1 V0 (no_index (Proc.devRef .tc main_call3_v2)) = maxsi (broadcastInDim S8192 ![] bcast_S_S8192 (id (constantI S_ 32 0#32))) (fptosi 32 (mulf (Host.divf (addf (res_main_v61 V0) (broadcastInDim S8192 ![] bcast_S_S8192 (constant S_ .f32 0x3F800000#32))) (broadcastInDim S8192 ![] bcast_S_S8192 (constant S_ .f32 0x40000000#32))) (broadcastInDim S8192 ![] bcast_S_S8192 (constant S_ .f32 0x41800000#32)))) := by
  unfold val1_1
  simp only [ops_part1_0, TRef.binary, TRef.unary, TRef.toBuf, TRef.ofBuf, cast_eq]
  after_results_simp
  simp only [val1_main_arg6, val1_main_arg5, val1_main_v50, val1_main_v49] <;> rfl
set_option maxRecDepth 8192 in
set_option maxHeartbeats 2000000 in
theorem val1_1_main_call3_v3 (V0 : Valuation τ sig (Elt F)) : val1_1 V0 (no_index (Proc.devRef .tc main_call3_v3)) = id (constantI S_ 32 15#32) := by
  unfold val1_1
  simp only [ops_part1_0, TRef.binary, TRef.unary, TRef.toBuf, TRef.ofBuf, cast_eq]
  after_results_simp
  all_goals rfl

/-- The device's buffer contents after @main's first 149 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call3_v4, main_v71, main_cst_13, main_v72, main_v73, main_cst_14, main_v74, main_v75, main_cst_15, main_v76, main_v77, main_v78, main_c_16, main_c_17, main_call4_v0, main_call4_v1, main_call4_v2, main_call4_v3, main_call4_v4, main_v79, main_cst_18, main_v80, main_v81, main_cst_19, main_v82, main_v83, main_cst_20, main_cst_21, main_call5_v0, main_call5_v1]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
theorem val1_2_main_v43 (V0 : Valuation τ sig (Elt F)) : val1_2 V0 (no_index (Proc.devRef .tc main_v43)) = res_main_v43 V0 :=
  (val1_2_keep V0 main_v43 (by decide)).trans (val1_1_main_v43 V0)
theorem val1_2_main_v61 (V0 : Valuation τ sig (Elt F)) : val1_2 V0 (no_index (Proc.devRef .tc main_v61)) = res_main_v61 V0 :=
  (val1_2_keep V0 main_v61 (by decide)).trans (val1_1_main_v61 V0)
theorem val1_2_main_v63 (V0 : Valuation τ sig (Elt F)) : val1_2 V0 (no_index (Proc.devRef .tc main_v63)) = res_main_v63 V0 :=
  (val1_2_keep V0 main_v63 (by decide)).trans (val1_1_main_v63 V0)
set_option maxRecDepth 8192 in
set_option maxHeartbeats 2000000 in
theorem val1_2_main_v71 (V0 : Valuation τ sig (Elt F)) : val1_2 V0 (no_index (Proc.devRef .tc main_v71)) = res_main_v71 V0 := by
  unfold val1_2
  simp only [ops_part1_1, TRef.binary, TRef.unary, TRef.toBuf, TRef.ofBuf, cast_eq]
  after_results_simp
  simp only [val1_1_main_call3_v2, val1_1_main_call3_v3] <;> rfl
set_option maxRecDepth 8192 in
set_option maxHeartbeats 2000000 in
theorem val1_2_main_v79 (V0 : Valuation τ sig (Elt F)) : val1_2 V0 (no_index (Proc.devRef .tc main_v79)) = res_main_v79 V0 := by
  unfold val1_2
  simp only [ops_part1_1, TRef.binary, TRef.unary, TRef.toBuf, TRef.ofBuf, cast_eq]
  after_results_simp
  simp only [val1_1_main_v63] <;> rfl
set_option maxRecDepth 8192 in
set_option maxHeartbeats 2000000 in
theorem val1_2_main_v81 (V0 : Valuation τ sig (Elt F)) : val1_2 V0 (no_index (Proc.devRef .tc main_v81)) = cmpf .ogt (V0 (Proc.devRef .tc main_arg8)) (broadcastInDim S64x16x16x3 ![] bcast_S_S64x16x16x3 (constant S_ .f32 0x3E99999A#32)) := by
  unfold val1_2
  simp only [ops_part1_1, TRef.binary, TRef.unary, TRef.toBuf, TRef.ofBuf, cast_eq]
  after_results_simp
  simp only [val1_1_main_arg8] <;> rfl
set_option maxRecDepth 8192 in
set_option maxHeartbeats 2000000 in
theorem val1_2_main_v83 (V0 : Valuation τ sig (Elt F)) : val1_2 V0 (no_index (Proc.devRef .tc main_v83)) = cmpf .olt (V0 (Proc.devRef .tc main_arg8)) (broadcastInDim S64x16x16x3 ![] bcast_S_S64x16x16x3 (constant S_ .f32 0xBE99999A#32)) := by
  unfold val1_2
  simp only [ops_part1_1, TRef.binary, TRef.unary, TRef.toBuf, TRef.ofBuf, cast_eq]
  after_results_simp
  simp only [val1_1_main_arg8] <;> rfl
set_option maxRecDepth 8192 in
set_option maxHeartbeats 2000000 in
theorem val1_2_main_call5_v0 (V0 : Valuation τ sig (Elt F)) : val1_2 V0 (no_index (Proc.devRef .tc main_call5_v0)) = broadcastInDim S64x16x16x3 ![] bcast_S_S64x16x16x3 (constant S_ .f32 0xBF800000#32) := by
  unfold val1_2
  simp only [ops_part1_1, TRef.binary, TRef.unary, TRef.toBuf, TRef.ofBuf, cast_eq]
  after_results_simp
  all_goals rfl
set_option maxRecDepth 8192 in
set_option maxHeartbeats 2000000 in
theorem val1_2_main_call5_v1 (V0 : Valuation τ sig (Elt F)) : val1_2 V0 (no_index (Proc.devRef .tc main_call5_v1)) = broadcastInDim S64x16x16x3 ![] bcast_S_S64x16x16x3 (constant S_ .f32 0x00000000#32) := by
  unfold val1_2
  simp only [ops_part1_1, TRef.binary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v84, main_cst_22, main_call6_v0, main_v85, main_v86, main_v87, main_v88, main_c_23, main_v89, main_v90, main_c_24, main_v91, main_v92]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_arg8 (V0 : Valuation τ sig (Elt F)) : val2 V0 (no_index (Proc.devRef .tc main_arg8)) = V0 (Proc.devRef .tc main_arg8) :=
  (val2_keep V0 main_arg8 (by decide)).trans (val1_2_main_arg8 V0)
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
theorem val2_main_arg10 (V0 : Valuation τ sig (Elt F)) : val2 V0 (no_index (Proc.devRef .tc main_arg10)) = V0 (Proc.devRef .tc main_arg10) :=
  (val2_keep V0 main_arg10 (by decide)).trans (val1_2_main_arg10 V0)
theorem val2_main_v43 (V0 : Valuation τ sig (Elt F)) : val2 V0 (no_index (Proc.devRef .tc main_v43)) = res_main_v43 V0 :=
  (val2_keep V0 main_v43 (by decide)).trans (val1_2_main_v43 V0)
theorem val2_main_v61 (V0 : Valuation τ sig (Elt F)) : val2 V0 (no_index (Proc.devRef .tc main_v61)) = res_main_v61 V0 :=
  (val2_keep V0 main_v61 (by decide)).trans (val1_2_main_v61 V0)
theorem val2_main_v63 (V0 : Valuation τ sig (Elt F)) : val2 V0 (no_index (Proc.devRef .tc main_v63)) = res_main_v63 V0 :=
  (val2_keep V0 main_v63 (by decide)).trans (val1_2_main_v63 V0)
theorem val2_main_v71 (V0 : Valuation τ sig (Elt F)) : val2 V0 (no_index (Proc.devRef .tc main_v71)) = res_main_v71 V0 :=
  (val2_keep V0 main_v71 (by decide)).trans (val1_2_main_v71 V0)
theorem val2_main_v79 (V0 : Valuation τ sig (Elt F)) : val2 V0 (no_index (Proc.devRef .tc main_v79)) = res_main_v79 V0 :=
  (val2_keep V0 main_v79 (by decide)).trans (val1_2_main_v79 V0)
set_option maxRecDepth 8192 in
set_option maxHeartbeats 1300000 in
theorem val2_main_v88 (V0 : Valuation τ sig (Elt F)) : val2 V0 (no_index (Proc.devRef .tc main_v88)) = addf (V0 (Proc.devRef .tc main_arg8)) (subf (id (select (cmpf .ogt (V0 (Proc.devRef .tc main_arg8)) (broadcastInDim S64x16x16x3 ![] bcast_S_S64x16x16x3 (constant S_ .f32 0x3E99999A#32))) (broadcastInDim S64x16x16x3 ![] bcast_S_S64x16x16x3 (constant S_ .f32 0x3F800000#32)) (select (cmpf .olt (V0 (Proc.devRef .tc main_arg8)) (broadcastInDim S64x16x16x3 ![] bcast_S_S64x16x16x3 (constant S_ .f32 0xBE99999A#32))) (broadcastInDim S64x16x16x3 ![] bcast_S_S64x16x16x3 (constant S_ .f32 0xBF800000#32)) (broadcastInDim S64x16x16x3 ![] bcast_S_S64x16x16x3 (constant S_ .f32 0x00000000#32))))) (V0 (Proc.devRef .tc main_arg8))) := by
  unfold val2
  simp only [ops_part1_2, TRef.ternary, TRef.unary, TRef.toBuf, TRef.ofBuf, cast_eq]
  after_results_simp
  simp only [val1_2_main_call5_v1, val1_2_main_call5_v0, val1_2_main_v83, val1_2_main_v81, val1_2_main_arg8] <;> rfl
set_option maxRecDepth 8192 in
set_option maxHeartbeats 1300000 in
theorem val2_main_v90 (V0 : Valuation τ sig (Elt F)) : val2 V0 (no_index (Proc.devRef .tc main_v90)) = cmpi .slt (res_main_v43 V0) (broadcastInDim S8192 ![] bcast_S_S8192 (constantI S_ 32 0#32)) := by
  unfold val2
  simp only [ops_part1_2, TRef.ternary, TRef.unary, TRef.toBuf, TRef.ofBuf, cast_eq]
  after_results_simp
  simp only [val1_2_main_v43] <;> rfl
set_option maxRecDepth 8192 in
set_option maxHeartbeats 1300000 in
theorem val2_main_v92 (V0 : Valuation τ sig (Elt F)) : val2 V0 (no_index (Proc.devRef .tc main_v92)) = addi (res_main_v43 V0) (broadcastInDim S8192 ![] bcast_S_S8192 (constantI S_ 32 64#32)) := by
  unfold val2
  simp only [ops_part1_2, TRef.ternary, TRef.unary, TRef.toBuf, TRef.ofBuf, cast_eq]
  after_results_simp
  simp only [val1_2_main_v43] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v93, main_c_25, main_v94, main_v95, main_c_26, main_v96, main_v97, main_v98, main_c_27, main_v99, main_v100, main_c_28, main_v101, main_v102, main_v103, main_v104, main_v105, main_v106, main_v107, main_v108, main_cst_29, main_v109, main_v110, main_v111, main_cst_30, main_v112, main_v113, main_v114, main_cst_31, main_v115, main_v116, main_cst_32, main_v117, main_v118, main_v119, main_cst_33, main_v120, main_v121, main_v122, main_cst_34, main_v123, main_v124, main_v125, main_v126, main_v127, main_v128, main_v129, main_v130, main_v131, main_v132, main_v133, main_v134, main_c_35, main_v135, main_v136, main_c_36, main_v137, main_v138, main_v139, main_v140]
set_option maxRecDepth 8192 in
theorem ops_part2_writes : (ops_part2 : List (HloOp τ sig (Elt F))).Forall fun op => op.writes ⊆ (ops_part2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_v43 (V0 : Valuation τ sig (Elt F)) : val3 V0 (no_index (Proc.devRef .tc main_v43)) = res_main_v43 V0 :=
  (val3_keep V0 main_v43 (by decide)).trans (val2_main_v43 V0)
set_option maxRecDepth 8192 in
set_option maxHeartbeats 2000000 in
theorem val3_main_v134 (V0 : Valuation τ sig (Elt F)) : val3 V0 (no_index (Proc.devRef .tc main_v134)) = addf (addf (shapeCast _ (extractStridedSlice S8192x1 ![0, 0] (res_main_v108 V0) slices_S8192x3_S8192x1_0_0) shapeCasts_S8192x1_S8192) (mulf (shapeCast _ (extractStridedSlice S8192x1 ![0, 1] (res_main_v108 V0) slices_S8192x3_S8192x1_0_1) shapeCasts_S8192x1_S8192) (Host.divf (subf (addf (res_main_v61 V0) (broadcastInDim S8192 ![] bcast_S_S8192 (constant S_ .f32 0x3F800000#32))) (mulf (sitofp .f32 (res_main_v71 V0)) (broadcastInDim S8192 ![] bcast_S_S8192 (constant S_ .f32 0x3E000000#32)))) (broadcastInDim S8192 ![] bcast_S_S8192 (constant S_ .f32 0x3E000000#32))))) (mulf (shapeCast _ (extractStridedSlice S8192x1 ![0, 2] (res_main_v108 V0) slices_S8192x3_S8192x1_0_2) shapeCasts_S8192x1_S8192) (Host.divf (subf (addf (res_main_v63 V0) (broadcastInDim S8192 ![] bcast_S_S8192 (constant S_ .f32 0x3F800000#32))) (mulf (sitofp .f32 (res_main_v79 V0)) (broadcastInDim S8192 ![] bcast_S_S8192 (constant S_ .f32 0x3E000000#32)))) (broadcastInDim S8192 ![] bcast_S_S8192 (constant S_ .f32 0x3E000000#32)))) := by
  unfold val3
  simp only [ops_part2]
  after_results_simp
  try dsimp only [Matrix.cons_val]
  try after_results_simp
  simp only [val2_main_v79, val2_main_v63, val2_main_v71, val2_main_v43, val2_main_v92, val2_main_v90, val2_main_v88, val2_main_v61] <;> rfl
set_option maxRecDepth 8192 in
set_option maxHeartbeats 2000000 in
theorem val3_main_v140 (V0 : Valuation τ sig (Elt F)) : val3 V0 (no_index (Proc.devRef .tc main_v140)) = broadcastInDim S8192x1 ![0] bcast_S8192_S8192x1_0 (select (cmpi .slt (res_main_v43 V0) (broadcastInDim S8192 ![] bcast_S_S8192 (constantI S_ 32 0#32))) (addi (res_main_v43 V0) (broadcastInDim S8192 ![] bcast_S_S8192 (constantI S_ 32 64#32))) (res_main_v43 V0)) := by
  unfold val3
  simp only [ops_part2]
  after_results_simp
  try dsimp only [Matrix.cons_val]
  try after_results_simp
  simp only [val2_main_v43] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v141, main_v142, main_v143, main_c_37, main_v144, main_v145, main_c_38, main_v146, main_v147, main_v148, main_v149, main_v150, main_v151, main_v152, main_v153, main_v154, main_v155, main_v156, main_v157]
set_option maxRecDepth 8192 in
theorem ops_part3_writes : (ops_part3 : List (HloOp τ sig (Elt F))).Forall fun op => op.writes ⊆ (ops_part3_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
set_option maxRecDepth 8192 in
set_option maxHeartbeats 1900000 in
theorem val4_main_v157 (V0 : Valuation τ sig (Elt F)) : val4 V0 (no_index (Proc.devRef .tc main_v157)) = addf (V0 (Proc.devRef .tc main_arg0)) (mulf (shapeCast _ (mulf (broadcastInDim S8192x2048 ![0, 1] bcast_S8192x1_S8192x2048_0_1 (broadcastInDim S8192x1 ![0] bcast_S8192_S8192x1_0 (mulf (addf (addf (shapeCast _ (extractStridedSlice S8192x1 ![0, 0] (res_main_v108 V0) slices_S8192x3_S8192x1_0_0) shapeCasts_S8192x1_S8192) (mulf (shapeCast _ (extractStridedSlice S8192x1 ![0, 1] (res_main_v108 V0) slices_S8192x3_S8192x1_0_1) shapeCasts_S8192x1_S8192) (Host.divf (subf (addf (res_main_v61 V0) (broadcastInDim S8192 ![] bcast_S_S8192 (constant S_ .f32 0x3F800000#32))) (mulf (sitofp .f32 (res_main_v71 V0)) (broadcastInDim S8192 ![] bcast_S_S8192 (constant S_ .f32 0x3E000000#32)))) (broadcastInDim S8192 ![] bcast_S_S8192 (constant S_ .f32 0x3E000000#32))))) (mulf (shapeCast _ (extractStridedSlice S8192x1 ![0, 2] (res_main_v108 V0) slices_S8192x3_S8192x1_0_2) shapeCasts_S8192x1_S8192) (Host.divf (subf (addf (res_main_v63 V0) (broadcastInDim S8192 ![] bcast_S_S8192 (constant S_ .f32 0x3F800000#32))) (mulf (sitofp .f32 (res_main_v79 V0)) (broadcastInDim S8192 ![] bcast_S_S8192 (constant S_ .f32 0x3E000000#32)))) (broadcastInDim S8192 ![] bcast_S_S8192 (constant S_ .f32 0x3E000000#32))))) (Host.gather gather_S64_S8192x1_S8192_n_0_n_n_0_1_1 (V0 (Proc.devRef .tc main_arg9)) (broadcastInDim S8192x1 ![0] bcast_S8192_S8192x1_0 (select (cmpi .slt (res_main_v43 V0) (broadcastInDim S8192 ![] bcast_S_S8192 (constantI S_ 32 0#32))) (addi (res_main_v43 V0) (broadcastInDim S8192 ![] bcast_S_S8192 (constantI S_ 32 64#32))) (res_main_v43 V0))))))) (Host.gather gather_S64x2048_S8192x1_S8192x2048_1_0_n_n_0_1_12048 (V0 (Proc.devRef .tc main_arg7)) (broadcastInDim S8192x1 ![0] bcast_S8192_S8192x1_0 (select (cmpi .slt (res_main_v43 V0) (broadcastInDim S8192 ![] bcast_S_S8192 (constantI S_ 32 0#32))) (addi (res_main_v43 V0) (broadcastInDim S8192 ![] bcast_S_S8192 (constantI S_ 32 64#32))) (res_main_v43 V0))))) shapeCasts_S8192x2048_S4x2048x2048) (broadcastInDim S4x2048x2048 ![0, 1, 2] bcast_S1x1x1_S4x2048x2048_0_1_2 (broadcastInDim S1x1x1 ![2] bcast_S1_S1x1x1_2 (V0 (Proc.devRef .tc main_arg10))))) := by
  unfold val4
  simp only [ops_part3]
  after_results_simp
  simp only [val3_main_arg10, val3_main_v43, val3_main_arg7, val3_main_v140, val3_main_arg9, val3_main_v134, val3_main_arg0] <;> rfl

theorem after_ops (V0 : Valuation τ sig (Elt F)) : after ops V0 = val4 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = addf ((launchContents m c) (Proc.devRef .tc main_arg0)) (mulf (shapeCast _ (mulf (broadcastInDim S8192x2048 ![0, 1] bcast_S8192x1_S8192x2048_0_1 (broadcastInDim S8192x1 ![0] bcast_S8192_S8192x1_0 (mulf (addf (addf (shapeCast _ (extractStridedSlice S8192x1 ![0, 0] (res_main_v108 (launchContents m c)) slices_S8192x3_S8192x1_0_0) shapeCasts_S8192x1_S8192) (mulf (shapeCast _ (extractStridedSlice S8192x1 ![0, 1] (res_main_v108 (launchContents m c)) slices_S8192x3_S8192x1_0_1) shapeCasts_S8192x1_S8192) (Host.divf (subf (addf (res_main_v61 (launchContents m c)) (broadcastInDim S8192 ![] bcast_S_S8192 (constant S_ .f32 0x3F800000#32))) (mulf (sitofp .f32 (res_main_v71 (launchContents m c))) (broadcastInDim S8192 ![] bcast_S_S8192 (constant S_ .f32 0x3E000000#32)))) (broadcastInDim S8192 ![] bcast_S_S8192 (constant S_ .f32 0x3E000000#32))))) (mulf (shapeCast _ (extractStridedSlice S8192x1 ![0, 2] (res_main_v108 (launchContents m c)) slices_S8192x3_S8192x1_0_2) shapeCasts_S8192x1_S8192) (Host.divf (subf (addf (res_main_v63 (launchContents m c)) (broadcastInDim S8192 ![] bcast_S_S8192 (constant S_ .f32 0x3F800000#32))) (mulf (sitofp .f32 (res_main_v79 (launchContents m c))) (broadcastInDim S8192 ![] bcast_S_S8192 (constant S_ .f32 0x3E000000#32)))) (broadcastInDim S8192 ![] bcast_S_S8192 (constant S_ .f32 0x3E000000#32))))) (Host.gather gather_S64_S8192x1_S8192_n_0_n_n_0_1_1 ((launchContents m c) (Proc.devRef .tc main_arg9)) (broadcastInDim S8192x1 ![0] bcast_S8192_S8192x1_0 (select (cmpi .slt (res_main_v43 (launchContents m c)) (broadcastInDim S8192 ![] bcast_S_S8192 (constantI S_ 32 0#32))) (addi (res_main_v43 (launchContents m c)) (broadcastInDim S8192 ![] bcast_S_S8192 (constantI S_ 32 64#32))) (res_main_v43 (launchContents m c)))))))) (Host.gather gather_S64x2048_S8192x1_S8192x2048_1_0_n_n_0_1_12048 ((launchContents m c) (Proc.devRef .tc main_arg7)) (broadcastInDim S8192x1 ![0] bcast_S8192_S8192x1_0 (select (cmpi .slt (res_main_v43 (launchContents m c)) (broadcastInDim S8192 ![] bcast_S_S8192 (constantI S_ 32 0#32))) (addi (res_main_v43 (launchContents m c)) (broadcastInDim S8192 ![] bcast_S_S8192 (constantI S_ 32 64#32))) (res_main_v43 (launchContents m c)))))) shapeCasts_S8192x2048_S4x2048x2048) (broadcastInDim S4x2048x2048 ![0, 1, 2] bcast_S1x1x1_S4x2048x2048_0_1_2 (broadcastInDim S1x1x1 ![2] bcast_S1_S1x1x1_2 ((launchContents m c) (Proc.devRef .tc main_arg10)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v157).trans ((congrFun (after_ops (launchContents m c)) (Proc.devRef .tc main_v157)).trans (val4_main_v157 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c))),
      (h c main_arg8).trans ((congrFun (after_ops (launchContents m c)) (Proc.devRef .tc main_arg8)).trans (val4_main_arg8 (launchContents m c))),
      (h c main_arg9).trans ((congrFun (after_ops (launchContents m c)) (Proc.devRef .tc main_arg9)).trans (val4_main_arg9 (launchContents m c))),
      (h c main_arg10).trans ((congrFun (after_ops (launchContents m c)) (Proc.devRef .tc main_arg10)).trans (val4_main_arg10 (launchContents m c)))⟩)
    (run_seq scopedRefs_eq scopedSems_eq defs main (fun _ => ops) main_eq (fun _ => ops_sub) m ρ fun _ => ops_fresh)

end Cert.ReferenceIdeal.Value

end
-- ==== Proof.Math.lean ====
/- The mathematics of one row that both programs share, on the reals and the extended reals alone. -/
module

public import Idealize.ShloMosaic.Lib.Pointwise
public import Idealize.ShloMosaic.PureOps.Ideal.Laws
public import Idealize.ShloMosaic.Lib.SortNet.Extract

@[expose] public section

noncomputable section

namespace Cert.Proof.Math

open Idealize.ShloMosaic

/-! ## Sums of reals inside the extended reals -/

/-- A finite sum of reals, seen in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The first greatest entry -/

/-- `i` is the first place where `f` is greatest. -/
def IsAmax {n : ℕ} (f : Fin n → ℝ) (i : Fin n) : Prop := (∀ j, f j ≤ f i) ∧ ∀ j, j < i → f j < f i

/-- There is such a place. -/
theorem exists_amax {n : ℕ} (f : Fin (n + 1) → ℝ) : ∃ i, IsAmax f i := by
  obtain ⟨i0, h0⟩ := Finite.exists_max f
  have hne : Set.Nonempty {i : Fin (n + 1) | ∀ j, f j ≤ f i} := ⟨i0, h0⟩
  refine ⟨wellFounded_lt.min _ hne, wellFounded_lt.min_mem _ hne, fun j hj => ?_⟩
  have hmin := wellFounded_lt.min_mem _ hne
  by_contra hle
  have hle := not_lt.mp hle
  exact WellFounded.not_lt_min wellFounded_lt (s := {i : Fin (n + 1) | ∀ j, f j ≤ f i}) (x := j) (fun k => (hmin k).trans hle) hj

/-- A positive factor leaves the place. -/
theorem IsAmax.scale {n : ℕ} {f g : Fin n → ℝ} {i : Fin n} (h : IsAmax f i) (r : ℝ) (hr : 0 < r) (hg : ∀ j, g j = r * f j) : IsAmax g i :=
  ⟨fun j => by rw [hg, hg]; exact mul_le_mul_of_nonneg_left (h.1 j) hr.le,
    fun j hj => by rw [hg, hg]; exact mul_lt_mul_of_pos_left (h.2 j hj) hr⟩

/-- A small natural as a signed word. -/
theorem toInt_ofNat {k : ℕ} (h : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

/-- The greatest of a family, by a fold. -/
theorem fold_max_eq {ι : Type} [Fintype ι] (f : ι → EReal) (b : EReal) (hb : b = ⊥) (i : ι) (h : ∀ j, f j ≤ f i) :
    Finset.fold max b f Finset.univ = f i := by
  subst hb
  apply le_antisymm
  · rw [Finset.fold_max_le]; exact ⟨bot_le, fun j _ => h j⟩
  · rw [Finset.le_fold_max]; exact Or.inr ⟨i, Finset.mem_univ _, le_rfl⟩

/-- The signed least of a family of words, by a fold. -/
theorem fold_minsi_eq {ι : Type} [Fintype ι] (g : ι → BitVec 32) (v : BitVec 32) (i : ι) (hi : g i = v) (h : ∀ j, v.toInt ≤ (g j).toInt) :
    Finset.fold IntOp.minsi 2147483647#32 g Finset.univ = v := by
  have key : ∀ c : BitVec 32, c.toInt ≤ (Finset.fold IntOp.minsi 2147483647#32 g Finset.univ).toInt ↔
      c.toInt ≤ (2147483647#32 : BitVec 32).toInt ∧ ∀ x ∈ Finset.univ, c.toInt ≤ (g x).toInt := fun c =>
    Finset.fold_op_rel_iff_and (op := IntOp.minsi) (r := fun a b : BitVec 32 => a.toInt ≤ b.toInt)
      (fun {x y z} => by show x.toInt ≤ (IntOp.minsi y z).toInt ↔ _; rw [SortNet.toInt_minsi]; exact le_min_iff)
  have hb : v.toInt ≤ (2147483647#32 : BitVec 32).toInt := by
    have := BitVec.toInt_lt (x := v)
    have h2 : (2147483647#32 : BitVec 32).toInt = 2147483647 := by decide
    rw [h2]; omega
  apply BitVec.eq_of_toInt_eq
  apply le_antisymm
  · have := ((key (Finset.fold IntOp.minsi 2147483647#32 g Finset.univ)).mp le_rfl).2 i (Finset.mem_univ _)
    rwa [hi] at this
  · exact (key v).mpr ⟨hb, fun x _ => h x⟩

/-- The kernel's search: the least index at which the greatest entry is met. -/
theorem kernel_argmax {n : ℕ} (N : ℕ) (f : Fin n → EReal) (i : Fin n) (hmax : ∀ j, f j ≤ f i) (hlt : ∀ j, j < i → f j < f i)
    (hn : n ≤ N) (hN : N < 2 ^ 31) (b : EReal) (hb : b = ⊥) (fill : BitVec 32) (hfill : fill = BitVec.ofNat 32 N) :
    Finset.fold IntOp.minsi 2147483647#32 (fun c : Fin n => if f c = Finset.fold max b f Finset.univ then BitVec.ofNat 32 c.val else fill) Finset.univ
      = BitVec.ofNat 32 i.val := by
  subst hfill
  refine fold_minsi_eq _ _ i ?_ fun j => ?_
  · rw [fold_max_eq f b hb i hmax, if_pos rfl]
  · rw [fold_max_eq f b hb i hmax, toInt_ofNat (by have := i.isLt; omega)]
    have hi := i.isLt
    have hj := j.isLt
    split
    · rename_i he
      rw [toInt_ofNat (by omega)]
      by_contra hc
      exact absurd he (hlt j (by rw [Fin.lt_def]; omega)).ne
    · rw [toInt_ofNat hN]; omega

/-- A pair comes before another: a greater value, or the same value at an index no larger. -/
def Before (a b : EReal × BitVec 32) : Prop := b.1 < a.1 ∨ (a.1 = b.1 ∧ a.2.toInt ≤ b.2.toInt)

/-- A fold that keeps whichever of two pairs comes before ends at the pair that comes before all. -/
theorem foldl_pick (red : EReal × BitVec 32 → EReal × BitVec 32 → EReal × BitVec 32)
    (hl : ∀ a b, Before a b → red a b = a) (hr : ∀ a b, Before b a → red a b = b) (p : EReal × BitVec 32) :
    ∀ (L : List (EReal × BitVec 32)) (init : EReal × BitVec 32), (∀ q ∈ L, Before p q) → Before p init → (p ∈ L ∨ init = p) → L.foldl red init = p := by
  have tot : ∀ a b : EReal × BitVec 32, Before a b ∨ Before b a := fun a b => by
    unfold Before
    rcases lt_trichotomy a.1 b.1 with h | h | h
    · exact Or.inr (Or.inl h)
    · rcases le_total a.2.toInt b.2.toInt with h2 | h2
      · exact Or.inl (Or.inr ⟨h, h2⟩)
      · exact Or.inr (Or.inr ⟨h.symm, h2⟩)
    · exact Or.inl (Or.inl h)
  intro L
  induction L with
  | nil => intro init _ _ h; rcases h with h | h
           · exact absurd h (List.not_mem_nil)
           · exact h
  | cons q L ih =>
    intro init hall hinit hmem
    rw [List.foldl_cons]
    have hpq : Before p q := hall q List.mem_cons_self
    have hp : Before p (red init q) := by
      rcases tot init q with h | h
      · rw [hl _ _ h]; exact hinit
      · rw [hr _ _ h]; exact hpq
    refine ih _ (fun x hx => hall x (List.mem_cons_of_mem _ hx)) hp ?_
    rcases hmem with h | h
    · rcases List.mem_cons.mp h with h | h
      · subst h; exact Or.inr (hr _ _ hinit)
      · exact Or.inl h
    · subst h; exact Or.inr (hl _ _ hpq)

/-! ## The normalization of one row -/

/-- The constant the programs add to the variance. -/
def eps : ℝ := 10995116 / 2 ^ 40

/-- The normalisation's small constant is positive. -/
theorem eps_pos : 0 < eps := by unfold eps; positivity

variable (X : Fin 2048 → ℝ)

/-- The row's mean. -/
def mean : ℝ := (∑ k, X k) / 2048
/-- The row's variance, the mean square of the deviations. -/
def var : ℝ := (∑ k, (X k - mean X) * (X k - mean X)) / 2048
/-- The row's regularized deviation. -/
def sd : ℝ := Real.sqrt (var X + eps)
/-- The normalized row. -/
def xn (k : Fin 2048) : ℝ := (X k - mean X) / sd X
/-- The normalized row against a column of weights. -/
def lin (w : Fin 2048 → ℝ) : ℝ := ∑ k, xn X k * w k

/-- A variance is not negative. -/
theorem var_nonneg : 0 ≤ var X := div_nonneg (Finset.sum_nonneg fun _ _ => mul_self_nonneg _) (by norm_num)

/-- The regularised standard deviation is positive. -/
theorem sd_pos : 0 < sd X := Real.sqrt_pos.mpr (add_pos_of_nonneg_of_pos (var_nonneg X) eps_pos)

/-- The variance is the mean square less the square of the mean. -/
theorem var_eq : (∑ k, X k * X k) / 2048 - mean X * mean X = var X := by
  have h : ∑ k, (X k - mean X) * (X k - mean X) = ∑ k, X k * X k - 2 * mean X * ∑ k, X k + 2048 * (mean X * mean X) := by
    have : ∀ k, (X k - mean X) * (X k - mean X) = X k * X k - 2 * mean X * X k + mean X * mean X := fun k => by ring
    simp only [this]
    rw [Finset.sum_add_distrib, Finset.sum_sub_distrib, ← Finset.mul_sum, Finset.sum_const, Finset.card_univ, Fintype.card_fin, nsmul_eq_mul]
    norm_num
  have hm : ∑ k, X k = 2048 * mean X := by unfold mean; ring
  unfold var
  rw [h, hm]; ring

/-- A product of the raw row, corrected by the mean, is the deviation times the normalized row's product. -/
theorem sd_mul_lin (w : Fin 2048 → ℝ) : (∑ k, X k * w k) - mean X * ∑ k, w k = sd X * lin X w := by
  unfold lin xn
  rw [Finset.mul_sum, Finset.mul_sum, ← Finset.sum_sub_distrib]
  refine Finset.sum_congr rfl fun k _ => ?_
  have := (sd_pos X).ne'
  field_simp

end Cert.Proof.Math

end
-- ==== Proof.Spec.lean ====
/- One row of the result as a formula, and the facts about words, constants and one-hot sums that lead to it. -/
module

public import proofs.«01_k».proof.Proof.Math

@[expose] public section

noncomputable section

namespace Cert.Proof.Math

open Idealize.ShloMosaic

/-! ## The constants of the programs -/

/-- The constant 1/2048. -/
theorem c_inv2048 : Ideal.ofBits .f32 973078528#32 = ((1 / 2048 : ℝ) : EReal) := by
  simp [Ideal.ofBits, Ideal.ieee]; norm_num; rw [← EReal.coe_mul]; congr 1; norm_num
/-- The constant 2048. -/
theorem c_2048 : Ideal.ofBits .f32 1157627904#32 = ((2048 : ℝ) : EReal) := by
  simp [Ideal.ofBits, Ideal.ieee]; norm_num; rw [← EReal.coe_mul]; congr 1; norm_num
/-- The normalisation's small constant. -/
theorem c_eps : Ideal.ofBits .f32 925353388#32 = (eps : EReal) := by
  simp [Ideal.ofBits, Ideal.ieee, eps]; norm_num; rw [← EReal.coe_mul]; congr 1; norm_num
/-- The constant 8. -/
theorem c_8 : Ideal.ofBits .f32 1090519040#32 = ((8 : ℝ) : EReal) := by
  simp [Ideal.ofBits, Ideal.ieee]; norm_num; rw [← EReal.coe_mul]; congr 1; norm_num
/-- The constant 2. -/
theorem c_2 : Ideal.ofBits .f32 1073741824#32 = ((2 : ℝ) : EReal) := by
  simp [Ideal.ofBits, Ideal.ieee]; norm_num; rw [← EReal.coe_mul]; congr 1; norm_num
/-- The constant 16. -/
theorem c_16 : Ideal.ofBits .f32 1098907648#32 = ((16 : ℝ) : EReal) := by
  simp [Ideal.ofBits, Ideal.ieee]; norm_num; rw [← EReal.coe_mul]; congr 1; norm_num
/-- The constant 1/8. -/
theorem c_eighth : Ideal.ofBits .f32 1040187392#32 = ((1 / 8 : ℝ) : EReal) := by
  simp [Ideal.ofBits, Ideal.ieee]; norm_num; rw [← EReal.coe_mul]; congr 1; norm_num
/-- The constant -1. -/
theorem c_neg1 : Ideal.ofBits .f32 3212836864#32 = ((-1 : ℝ) : EReal) := by
  have h := IdealRules.sign_bit.ideal_negOnePat .f32
  rw [EReal.coe_neg, EReal.coe_one]; exact h
/-- The pattern of minus infinity. -/
theorem c_bot : Ideal.ofBits .f32 4286578688#32 = ⊥ := by
  simp [Ideal.ofBits, Ideal.ieee]

/-- A quotient of reals. -/
theorem div_real (a b : ℝ) (hb : b ≠ 0) : Ideal.div (a : EReal) (b : EReal) = ((a / b : ℝ) : EReal) := by
  rw [Ideal.div_coe hb, ← EReal.coe_mul]; congr 1; ring

/-! ## Signs -/

/-- The sign of an extended real, as a real. -/
def sg (e : EReal) : ℝ := if e < 0 then -1 else if 0 < e then 1 else 0

/-- The sign of an extended real is a real number. -/
theorem sign_eq (e : EReal) : Ideal.sign e = ((sg e : ℝ) : EReal) := by
  unfold sg
  split_ifs with h1 h2
  · rw [Ideal.sign_of_neg h1]; simp
  · rw [Ideal.sign_of_pos h2]; simp
  · rw [le_antisymm (not_lt.mp h2) (not_lt.mp h1), Ideal.sign_zero]; simp

/-- A positive divisor keeps a real's sign. -/
theorem sg_div (r d : ℝ) (hd : 0 < d) : sg ((r / d : ℝ) : EReal) = sg (r : EReal) := by
  unfold sg
  have h1 : ((r / d : ℝ) : EReal) < 0 ↔ (r : EReal) < 0 := by
    rw [EReal.coe_neg', EReal.coe_neg', div_lt_iff₀ hd, zero_mul]
  have h2 : 0 < ((r / d : ℝ) : EReal) ↔ 0 < (r : EReal) := by
    rw [EReal.coe_pos, EReal.coe_pos, lt_div_iff₀ hd, zero_mul]
  simp only [h1, h2]

/-! ## Words -/

/-- The tile of place `l` in cluster `c`. -/
def tl (c l : Fin 8) : Fin 64 := ⟨8 * c.val + l.val, by omega⟩

/-- The programs' floor division of a word by eight. -/
def fdiv8 (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 8#32 0#32)) (Scalar.extui (Scalar.cmpi .slt 8#32 0#32))))
    (IntOp.cmpi .ne (IntOp.remsi .vector x 8#32) 0#32)) (IntOp.subi (IntOp.divsi .vector x 8#32) 1#32) (IntOp.divsi .vector x 8#32)

/-- The floor division of a tile's number by eight is its cluster. -/
theorem fdiv8_tl : ∀ t : Fin 64, fdiv8 (BitVec.ofNat 32 t.val) = BitVec.ofNat 32 (t.val / 8) := by decide +kernel

/-- Whether two words agree, as the number a program makes of it. -/
theorem onehot (a b : BitVec 32) :
    (((BitVec.setWidth 32 (IntOp.cmpi .eq a b)).toInt : ℝ) : EReal) = if a = b then 1 else 0 := by
  by_cases e : a = b
  · subst e
    have : IntOp.cmpi .eq a a = 1#1 := by simp [IntOp.cmpi]
    rw [this, if_pos rfl]; norm_num
  · have : IntOp.cmpi .eq a b = 0#1 := by
      show BitVec.ofBool (a == b) = 0#1
      rw [beq_false_of_ne e]; rfl
    rw [this, if_neg e]; norm_num

/-- Words of small numbers are equal only if the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact fun h => by rw [h]

/-- A product with a one-hot row keeps one entry. -/
theorem sum_onehot {n : ℕ} (hn : n < 2 ^ 31) (i : Fin n) (f : Fin n → EReal) :
    ∑ x : Fin n, (if BitVec.ofNat 32 x.val = BitVec.ofNat 32 i.val then (1 : EReal) else 0) * f x = f i := by
  have : ∀ x : Fin n, (if BitVec.ofNat 32 x.val = BitVec.ofNat 32 i.val then (1 : EReal) else 0) * f x = if x = i then f x else 0 := fun x => by
    have hx := x.isLt
    have hi := i.isLt
    have : (BitVec.ofNat 32 x.val = BitVec.ofNat 32 i.val) ↔ x = i := by
      rw [ofNat_inj (by omega) (by omega), Fin.ext_iff]
    simp only [this]
    split_ifs <;> simp
  simp only [this]
  simp

/-- The same with the one-hot factor on the right. -/
theorem sum_onehot' {n : ℕ} (hn : n < 2 ^ 31) (i : Fin n) (f : Fin n → EReal) :
    ∑ x : Fin n, f x * (if BitVec.ofNat 32 x.val = BitVec.ofNat 32 i.val then (1 : EReal) else 0) = f i := by
  simp only [mul_comm (f _)]
  exact sum_onehot hn i f

/-- A sum over the tiles of one cluster, by the one-hot of the cluster. -/
theorem sum_cluster (a : Fin 64 → ℝ) (c : Fin 8) :
    ∑ x : Fin 64, ((a x : ℝ) : EReal) * (if BitVec.ofNat 32 (x.val / 8) = BitVec.ofNat 32 c.val then (1 : EReal) else 0)
      = ((∑ i : Fin 8, a (tl c i) : ℝ) : EReal) := by
  have h1 : ∀ x : Fin 64, ((a x : ℝ) : EReal) * (if BitVec.ofNat 32 (x.val / 8) = BitVec.ofNat 32 c.val then (1 : EReal) else 0)
      = ((if x.val / 8 = c.val then a x else 0 : ℝ) : EReal) := fun x => by
    have e : (BitVec.ofNat 32 (x.val / 8) = BitVec.ofNat 32 c.val) ↔ x.val / 8 = c.val := ofNat_inj (by omega) (by omega)
    simp only [e]
    split_ifs <;> simp
  rw [Finset.sum_congr rfl fun x _ => h1 x, ← coe_sum]
  congr 1
  rw [← Finset.sum_filter]
  refine (Finset.sum_bij (fun i _ => tl c i) (fun i _ => ?_) (fun i _ j _ h => ?_) (fun x hx => ?_) (fun _ _ => rfl)).symm
  · simp only [Finset.mem_filter, Finset.mem_univ, true_and, tl]; omega
  · have := congrArg Fin.val h
    simp only [tl] at this
    exact Fin.ext (by omega)
  · simp only [Finset.mem_filter, Finset.mem_univ, true_and] at hx
    exact ⟨⟨x.val % 8, by omega⟩, Finset.mem_univ _, Fin.ext (by simp only [tl]; omega)⟩

/-! ## The row's formula -/

/-- A tile's signs. -/
def tileSg (D : Fin 64 → Fin 2048 → EReal) (t : Fin 64) (k : Fin 2048) : ℝ := sg (D t k)
/-- A cluster's signs: the sign of the sum of its tiles' signs. -/
def clSg (D : Fin 64 → Fin 2048 → EReal) (c : Fin 8) (k : Fin 2048) : ℝ := sg ((∑ i : Fin 8, tileSg D (tl c i) k : ℝ) : EReal)

/-- The row goes to place `l` of cluster `c`: the cluster with the first greatest score, and in it the tile with the first greatest score. -/
def Routed (X : Fin 2048 → ℝ) (D : Fin 64 → Fin 2048 → EReal) (c l : Fin 8) : Prop :=
  IsAmax (fun c => lin X (clSg D c)) c ∧ IsAmax (fun l => lin X (tileSg D (tl c l))) l

/-- Every row has a route. -/
theorem exists_routed (X : Fin 2048 → ℝ) (D : Fin 64 → Fin 2048 → EReal) : ∃ c l, Routed X D c l := by
  obtain ⟨c, hc⟩ := exists_amax fun c : Fin 8 => lin X (clSg D c)
  obtain ⟨l, hl⟩ := exists_amax fun l : Fin 8 => lin X (tileSg D (tl c l))
  exact ⟨c, l, hc, hl⟩

/-- The activation's coordinate: the two-layer network's output through the hyperbolic tangent. -/
def ab (X : Fin 2048 → ℝ) (W : Fin 2048 → Fin 512 → ℝ) (W2 : Fin 512 → EReal) : EReal :=
  Ideal.tanh (∑ j, Ideal.ofBits .f32 1056964608#32 * ((lin X fun k => W k j : ℝ) : EReal)
    * (1 + Ideal.erf (((lin X fun k => W k j : ℝ) : EReal) * Ideal.ofBits .f32 1060439283#32)) * W2 j)

/-- The coordinate on the grid. -/
def fa (a : EReal) : EReal := (a + 1) * ((8 : ℝ) : EReal)
/-- The grid cell's index as a word. -/
def ia (a : EReal) : BitVec 32 := IntOp.minsi 15#32 (IntOp.maxsi 0#32 (Ideal.fptosi 32 (fa a)))

/-- A cell's word lies in the grid. -/
theorem ia_range (a : EReal) : 0 ≤ (ia a).toInt ∧ (ia a).toInt ≤ 15 := by
  unfold ia
  rw [SortNet.toInt_minsi, SortNet.toInt_maxsi]
  have h15 : (15#32 : BitVec 32).toInt = 15 := by decide
  have h0 : (0#32 : BitVec 32).toInt = 0 := by decide
  rw [h15, h0]
  omega

/-- The grid cell's index. -/
def cell (a : EReal) : Fin 16 := ⟨(ia a).toInt.toNat, by have := ia_range a; omega⟩

/-- A cell's word is its number. -/
theorem ia_eq (a : EReal) : ia a = BitVec.ofNat 32 (cell a).val := by
  have h := ia_range a
  apply BitVec.eq_of_toInt_eq
  rw [toInt_ofNat (by have := (cell a).isLt; omega)]
  show (ia a).toInt = (((ia a).toInt.toNat : ℕ) : ℤ)
  omega

/-- The offset in the grid cell. -/
def fr (a : EReal) : EReal := fa a - (((ia a).toInt : ℝ) : EReal)

/-- A coefficient as its ternary value. -/
def tern (z : EReal) : EReal :=
  if Ideal.ofBits .f32 1050253722#32 < z then 1 else if z < Ideal.ofBits .f32 3197737370#32 then ((-1 : ℝ) : EReal) else 0

/-- The spline's value in a cell with three coefficients at two offsets. -/
def spl (C : Fin 16 → Fin 16 → Fin 3 → EReal) (a b : EReal) : EReal :=
  tern (C (cell a) (cell b) 0) + tern (C (cell a) (cell b) 1) * fr a + tern (C (cell a) (cell b) 2) * fr b

end Cert.Proof.Math

end
-- ==== Proof.KerBody.lean ====
/- What the kernel's body leaves in its output block and in its scratch, as terms over the payloads. -/
module

public import proofs.«01_k».proof.Proof.Gen.KernelIdeal.Frame
public import Idealize.ShloMosaic.Lib.Pipeline.Value

@[expose] public section

set_option maxRecDepth 16384

noncomputable section

namespace Cert.Proof.KerBody

open Cert.KernelIdeal Cert.KernelIdeal.Gen Idealize.ShloMosaic Idealize.ShloMosaic.TcCoe Idealize.SL.Sem

variable {F : FTy → Type} [FloatOps F]

/-- The zero offset, written as a constant function. -/
theorem hz : (![0, 0] : Fin 2 → Nat) = fun _ => 0 := funext fun a => by fin_cases a <;> rfl

/-- The output block, from the point's block of rows and what the scratch holds. -/
def body (x : Vec F S1024x2048 .f32) (w2 : Vec F S512x128 .bf16) (os : Vec F S1x1 .f32) (sig : Vec F S2048x128 .bf16) (tq : Vec F S1024x128 .bf16) (w1 : Vec F S2048x512 .bf16) (dirs : Vec F S64x2048 .bf16)
    (cs : Vec F S1x128 .f32) (cw : Vec F S1x512 .f32) : Vec F S1024x2048 .f32 :=
  let v15 := k0_pay19 x sig
  let v20 := k0_pay20 x sig
  let v79 := k0_pay23 (k0_pay21 x sig cs) (k0_pay22 x sig cs)
  let v81 := k0_pay24 (k0_pay17 x) w1
  let v85 := k0_pay25 v15 cw
  k0_pay1 (k0_pay16 x) (iota .tc S1024x64 32 [1] iota_S1024x64_d1_w32) v79 (k0_pay30 v20 v81 v85 w2) (k0_pay31 v20 v81 v85 w2) (k0_pay32 v20 v81 v85 w2)
    (iota .tc S1024x1024 32 [1] iota_S1024x1024_d1_w32) (k0_pay33 v20 v79 v81 v85 w2) tq os dirs

/-- The signs' scratch: the tiles' signs, the clusters' signs, a column of ones, and zeros. -/
def sigOf (d : Vec F S2048x64 .f32) : Vec F S2048x128 .bf16 :=
  View.canon [⟨Rect.unit (s := S2048x128) ![0, 73] S2048x55.size inb_S2048x128_S2048x55_0_73, k0_pay9 (F := F)⟩,
    ⟨Rect.unit (s := S2048x128) ![0, 72] S2048x1.size inb_S2048x128_S2048x1_0_72, k0_pay8 (F := F)⟩,
    ⟨Rect.unit (s := S2048x128) ![0, 64] S2048x8.size inb_S2048x128_S2048x8_0_64, k0_pay7 (k0_pay3 d) (k0_pay4 d) (k0_pay5 d)⟩,
    ⟨Rect.unit (s := S2048x128) ![0, 0] S2048x64.size inb_S2048x128_S2048x64_0_0, k0_pay6 (k0_pay2 d)⟩]

/-- A load of a whole buffer after stores reads what the stores left. -/
theorem readCov_zero {S : Shape} {e : EltTy} {sg : RefSig} {κ : Kind} {sp : Space} (v : View sg κ sp S e) {off : Fin S.rank → Nat} (h : off = fun _ => 0)
    (inb : ∀ a, off a + S.size a ≤ S.size a) (L : List (View.Piece (Elt F) S e)) :
    v.readCov L (Rect.unit off S.size inb).toLoadRect = View.canon L :=
  (View.readCov_eq_canon' v L _).trans (View.ld_unit_zero h inb (View.canon L))

/-- At a point that initializes nothing, the block is the body over what the scratch holds. -/
theorem out_B (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : ¬cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) (xs0 : Vec F S2048x128 .bf16) (xs1 : Vec F S1024x128 .bf16) (xs2 : Vec F S2048x512 .bf16) (xs3 : Vec F S64x2048 .bf16) (xs4 : Vec F S1x128 .f32) (xs5 : Vec F S1x512 .f32) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 xs5 = body x0 x2 x6 xs0 xs1 xs2 xs3 xs4 xs5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 xs3 xs4 xs5)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S1024x2048) hz, View.ld_unit_zero (S := S1024x2048) hz, View.ld_unit_zero (S := S2048x128) hz, View.ld_unit_zero (S := S1x128) hz, View.ld_unit_zero (S := S2048x512) hz, View.ld_unit_zero (S := S1x512) hz, View.ld_unit_zero (S := S512x128) hz, View.ld_unit_zero (S := S1024x128) hz, View.ld_unit_zero (S := S1x1) hz, View.ld_unit_zero (S := S64x2048) hz]
  rfl

/-- At the point that initializes the scratch, the block is the body over the initialized contents. -/
theorem out_A (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = body x0 x2 x6 (sigOf x3) (k0_pay15 x5) (k0_pay10 x1) (k0_pay11 x4) (k0_pay13 (k0_pay12 (sigOf x3))) (k0_pay14 (k0_pay10 x1)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S1024x2048) hz, View.ld_unit_zero (S := S1024x2048) hz, View.ld_unit_zero (S := S2048x64) hz, View.ld_unit_zero (S := S2048x128) hz, View.ld_unit_zero (S := S1x128) hz, View.ld_unit_zero (S := S2048x512) hz, View.ld_unit_zero (S := S1x512) hz, View.ld_unit_zero (S := S512x128) hz, View.ld_unit_zero (S := S1024x128) hz, View.ld_unit_zero (S := S1x1) hz, View.ld_unit_zero (S := S64x2048) hz,
    readCov_zero (S := S1024x128) _ hz, readCov_zero (S := S2048x512) _ hz, readCov_zero (S := S64x2048) _ hz, readCov_zero (S := S1x128) _ hz, readCov_zero (S := S1x512) _ hz, readCov_zero (S := S2048x128) _ hz, View.canon_unit_zero (S := S1024x128) hz, View.canon_unit_zero (S := S2048x512) hz, View.canon_unit_zero (S := S64x2048) hz, View.canon_unit_zero (S := S1x128) hz, View.canon_unit_zero (S := S1x512) hz]
  rfl

/-- What the initialization leaves in scratch 0. -/
theorem sout_A_0 (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = sigOf x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S2048x128) hz, View.ld_unit_zero (S := S2048x64) hz, View.ld_unit_zero (S := S2048x512) hz, View.ld_unit_zero (S := S1024x128) hz, View.ld_unit_zero (S := S64x2048) hz,
    readCov_zero (S := S2048x512) _ hz, readCov_zero (S := S2048x128) _ hz, View.canon_unit_zero (S := S2048x512) hz]
  rfl

/-- What the initialization leaves in scratch 1. -/
theorem sout_A_1 (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay15 x5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S1024x128) hz, View.ld_unit_zero (S := S2048x64) hz, View.ld_unit_zero (S := S2048x512) hz, View.ld_unit_zero (S := S1024x128) hz, View.ld_unit_zero (S := S64x2048) hz,
    readCov_zero (S := S2048x512) _ hz, readCov_zero (S := S2048x128) _ hz, View.canon_unit_zero (S := S2048x512) hz]

/-- What the initialization leaves in scratch 2. -/
theorem sout_A_2 (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay10 x1 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S2048x512) hz, View.ld_unit_zero (S := S2048x64) hz, View.ld_unit_zero (S := S2048x512) hz, View.ld_unit_zero (S := S1024x128) hz, View.ld_unit_zero (S := S64x2048) hz,
    readCov_zero (S := S2048x512) _ hz, readCov_zero (S := S2048x128) _ hz, View.canon_unit_zero (S := S2048x512) hz]

/-- What the initialization leaves in scratch 3. -/
theorem sout_A_3 (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay11 x4 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S64x2048) hz, View.ld_unit_zero (S := S2048x64) hz, View.ld_unit_zero (S := S2048x512) hz, View.ld_unit_zero (S := S1024x128) hz, View.ld_unit_zero (S := S64x2048) hz,
    readCov_zero (S := S2048x512) _ hz, readCov_zero (S := S2048x128) _ hz, View.canon_unit_zero (S := S2048x512) hz]

/-- What the initialization leaves in scratch 4. -/
theorem sout_A_4 (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay13 (k0_pay12 (sigOf x3)) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S1x128) hz, View.ld_unit_zero (S := S2048x64) hz, View.ld_unit_zero (S := S2048x512) hz, View.ld_unit_zero (S := S1024x128) hz, View.ld_unit_zero (S := S64x2048) hz,
    readCov_zero (S := S2048x512) _ hz, readCov_zero (S := S2048x128) _ hz, View.canon_unit_zero (S := S2048x512) hz]
  rfl

/-- What the initialization leaves in scratch 5. -/
theorem sout_A_5 (c : Dev nD) (i : grid0.Coords) (arg1 : Memref sig .tc .vmem S1024x2048 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S2048x64 .f32) (harg4 : arg4.IsWhole) (arg5 : Memref sig .tc .vmem S64x2048 .f32) (harg5 : arg5.IsWhole) (arg6 : Memref sig .tc .vmem S1024x128 .f32) (harg6 : arg6.IsWhole) (arg7 : Memref sig .tc .vmem S1x1 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x128 .bf16) (harg10 : arg10.IsWhole) (arg11 : Memref sig .tc .vmem S2048x512 .bf16) (harg11 : arg11.IsWhole) (arg12 : Memref sig .tc .vmem S64x2048 .bf16) (harg12 : arg12.IsWhole) (arg13 : Memref sig .tc .vmem S1x128 .f32) (harg13 : arg13.IsWhole) (arg14 : Memref sig .tc .vmem S1x512 .f32) (harg14 : arg14.IsWhole) (hc0 : cond0_0 i)
    (x0 : Vec F S1024x2048 .f32) (x1 : Vec F S2048x512 .f32) (x2 : Vec F S512x128 .bf16) (x3 : Vec F S2048x64 .f32) (x4 : Vec F S64x2048 .f32) (x5 : Vec F S1024x128 .f32) (x6 : Vec F S1x1 .f32) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay14 (k0_pay10 x1) := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.canon_unit_zero (S := S1x512) hz, View.ld_unit_zero (S := S2048x64) hz, View.ld_unit_zero (S := S2048x512) hz, View.ld_unit_zero (S := S1024x128) hz, View.ld_unit_zero (S := S64x2048) hz,
    readCov_zero (S := S2048x512) _ hz, readCov_zero (S := S2048x128) _ hz, View.canon_unit_zero (S := S2048x512) hz]

end Cert.Proof.KerBody

end
-- ==== Proof.KerRow.lean ====
/- The kernel's payloads, read at one entry. -/
module

public import proofs.«01_k».proof.Proof.Spec
public import proofs.«01_k».proof.Proof.KerBody
public import Idealize.ShloMosaic.Lib.Pipeline.ValueKit

@[expose] public section

set_option maxRecDepth 16384

noncomputable section

namespace Cert.Proof.KerRow

open Cert.KernelIdeal Cert.KernelIdeal.Gen Idealize.ShloMosaic Idealize.SL.Sem Cert.Proof.Math Cert.Proof.KerBody

/-- A column of the scratch of signs as a column of the wide array. -/
abbrev colT (t : Fin 64) : Fin 128 := ⟨t.val, by omega⟩
/-- A cluster's column in the scratch of signs. -/
abbrev colC (c : Fin 8) : Fin 128 := ⟨64 + c.val, by omega⟩

/-- A select on an equality of words. -/
theorem select_eq {α : Type} (a b : BitVec 32) (u v : α) : Scalar.select (IntOp.cmpi .eq a b) u v = if a = b then u else v := by
  by_cases e : a = b
  · subst e
    rw [if_pos rfl, show IntOp.cmpi .eq a a = 1#1 by simp [IntOp.cmpi]]; rfl
  · rw [if_neg e, show IntOp.cmpi .eq a b = 0#1 by show BitVec.ofBool (a == b) = 0#1; rw [beq_false_of_ne e]; rfl]; rfl

/-- The tiles of a cluster. -/
theorem exists_tl (c : Fin 8) (j : Fin 64) (h : j.val / 8 = c.val) : ∃ i, tl c i = j :=
  ⟨⟨j.val % 8, by omega⟩, Fin.ext (by simp only [tl]; omega)⟩

/-- The payload of the tiles' signs. -/
theorem pay6_at (d : Vec Ideal S2048x64 .f32) (k : Fin 2048) (t : Fin 64) :
    k0_pay6 (k0_pay2 d) (ix2 k t) = ((sg (d (ix2 k t)) : ℝ) : EReal) := by
  refine Eq.trans ?_ ((Ideal.jnp_sign_eq_sign_f32 (d (ix2 k t))).trans (sign_eq _))
  pointwise [k0_pay6, k0_pay2]

/-- The same before its reshape. -/
theorem pay2_at (d : Vec Ideal S2048x64 .f32) (k : Fin 2048) (t : Fin 64) :
    k0_pay2 d (ix2 k t) = ((sg (d (ix2 k t)) : ℝ) : EReal) := by
  refine Eq.trans ?_ ((Ideal.jnp_sign_eq_sign_f32 (d (ix2 k t))).trans (sign_eq _))
  pointwise [k0_pay2]

/-- The payload of the clusters' sums. -/
theorem pay3_at (d : Vec Ideal S2048x64 .f32) (k : Fin 2048) (c : Fin 8) :
    k0_pay3 d (ix2 k c) = ((∑ i : Fin 8, sg (d (ix2 k (tl c i))) : ℝ) : EReal) := by
  refine Eq.trans ?_ (sum_cluster (fun t => sg (d (ix2 k t))) c)
  pointwise [k0_pay3]
  refine Finset.sum_congr rfl fun x _ => ?_
  refine congrArg₂ (· * ·) (pay2_at d k x) ?_
  refine Eq.trans ?_ (onehot (BitVec.ofNat 32 (x.val / 8)) (BitVec.ofNat 32 c.val))
  rw [← fdiv8_tl x]
  rfl

/-- The payload of the clusters' signs. -/
theorem pay7_at (d : Vec Ideal S2048x64 .f32) (k : Fin 2048) (c : Fin 8) :
    k0_pay7 (k0_pay3 d) (k0_pay4 d) (k0_pay5 d) (ix2 k c) = ((sg ((∑ i : Fin 8, sg (d (ix2 k (tl c i))) : ℝ) : EReal) : ℝ) : EReal) := by
  rw [← pay3_at d k c]
  refine Eq.trans ?_ ((Ideal.jnp_sign_eq_sign_f32 (k0_pay3 d (ix2 k c))).trans (sign_eq _))
  pointwise [k0_pay7, k0_pay4, k0_pay5]

/-- Under the last store of some columns, what it stored. -/
theorem canon_hit {n m o sz : ℕ} {e : EltTy} (inb : ∀ a, (![0, o] : Fin 2 → ℕ) a + (![n, sz] : Fin 2 → ℕ) a ≤ (⟨2, ![n, m]⟩ : Shape).size a)
    (w : (Rect.unit (s := ⟨2, ![n, m]⟩) ![0, o] ![n, sz] inb).shape.Idx → Elt Ideal e)
    (L : List (View.Piece (Elt Ideal) ⟨2, ![n, m]⟩ e)) (k : Fin n) (l : Fin m) (c : Fin sz) (h : l.val = o + c.val) :
    View.canon (⟨Rect.unit (s := ⟨2, ![n, m]⟩) ![0, o] ![n, sz] inb, w⟩ :: L) (ix2 k l) = w (ix2 k c) := by
  have he : (Rect.unit (s := ⟨2, ![n, m]⟩) ![0, o] ![n, sz] inb).emb (ix2 k c) = ix2 k l := by
    funext a; refine Fin.ext ?_
    match a with
    | ⟨0, _⟩ => show 0 + 1 * k.val = k.val; omega
    | ⟨1, _⟩ => show o + 1 * c.val = l.val; omega
  rw [← he]
  exact View.canon_cons_emb _ w L _

/-- Beside the last store, what the earlier ones left. -/
theorem canon_miss {n m o sz : ℕ} {e : EltTy} (inb : ∀ a, (![0, o] : Fin 2 → ℕ) a + (![n, sz] : Fin 2 → ℕ) a ≤ (⟨2, ![n, m]⟩ : Shape).size a)
    (w : (Rect.unit (s := ⟨2, ![n, m]⟩) ![0, o] ![n, sz] inb).shape.Idx → Elt Ideal e)
    (L : List (View.Piece (Elt Ideal) ⟨2, ![n, m]⟩ e)) (k : Fin n) (l : Fin m) (h : l.val < o) :
    View.canon (⟨Rect.unit (s := ⟨2, ![n, m]⟩) ![0, o] ![n, sz] inb, w⟩ :: L) (ix2 k l) = View.canon L (ix2 k l) :=
  View.canon_cons_of_not_mem _ _ fun hm => by
    have h1 : o ≤ l.val := ((Rect.mem_set_unit (s := ⟨2, ![n, m]⟩) (off := ![0, o]) (size := ![n, sz]) (inb := inb)).mp hm 1).1
    omega

/-- The tiles' columns of the scratch of signs. -/
theorem sig_T (d : Vec Ideal S2048x64 .f32) (k : Fin 2048) (t : Fin 64) : sigOf d (ix2 k (colT t)) = ((sg (d (ix2 k t)) : ℝ) : EReal) := by
  have ht := t.isLt
  exact ((canon_miss (n := 2048) (m := 128) (o := 73) (sz := 55) _ _ _ k (colT t) (by show t.val < 73; omega)).trans
    ((canon_miss (n := 2048) (m := 128) (o := 72) (sz := 1) _ _ _ k (colT t) (by show t.val < 72; omega)).trans
    ((canon_miss (n := 2048) (m := 128) (o := 64) (sz := 8) _ _ _ k (colT t) (by show t.val < 64; omega)).trans
    (canon_hit (n := 2048) (m := 128) (o := 0) (sz := 64) _ _ _ k (colT t) t (by show t.val = 0 + t.val; omega))))).trans (pay6_at d k t)

/-- The clusters' columns. -/
theorem sig_C (d : Vec Ideal S2048x64 .f32) (k : Fin 2048) (c : Fin 8) :
    sigOf d (ix2 k (colC c)) = ((sg ((∑ i : Fin 8, sg (d (ix2 k (tl c i))) : ℝ) : EReal) : ℝ) : EReal) := by
  have hc := c.isLt
  exact ((canon_miss (n := 2048) (m := 128) (o := 73) (sz := 55) _ _ _ k (colC c) (by show 64 + c.val < 73; omega)).trans
    ((canon_miss (n := 2048) (m := 128) (o := 72) (sz := 1) _ _ _ k (colC c) (by show 64 + c.val < 72; omega)).trans
    (canon_hit (n := 2048) (m := 128) (o := 64) (sz := 8) _ _ _ k (colC c) c rfl))).trans (pay7_at d k c)

/-- The payload of ones. -/
theorem pay8_at (k : Fin 2048) : k0_pay8 (F := Ideal) (ix2 k (0 : Fin 1)) = 1 := by pointwise [k0_pay8]

/-- The column of ones. -/
theorem sig_one (d : Vec Ideal S2048x64 .f32) (k : Fin 2048) : sigOf d (ix2 k (72 : Fin 128)) = 1 :=
  ((canon_miss (n := 2048) (m := 128) (o := 73) (sz := 55) _ _ _ k 72 (by decide)).trans
    (canon_hit (n := 2048) (m := 128) (o := 72) (sz := 1) _ _ _ k 72 0 rfl)).trans (pay8_at k)

/-! ## One row of a block -/

variable (x : Vec Ideal S1024x2048 .f32) (w1 : Vec Ideal S2048x512 .f32) (w2 : Vec Ideal S512x128 .bf16) (d : Vec Ideal S2048x64 .f32)
  (dirs : Vec Ideal S64x2048 .f32) (q : Vec Ideal S1024x128 .f32) (os : Vec Ideal S1x1 .f32) (r : Fin 1024)

section Scores
variable (X : Fin 2048 → ℝ) (hx : ∀ k, x (ix2 r k) = ((X k : ℝ) : EReal))
include hx

/-- A product of the row with a column of the scratch that holds reals. -/
theorem pay18_at (s : Vec Ideal S2048x128 .bf16) (l : Fin 128) (w : Fin 2048 → ℝ) (hw : ∀ k, s (ix2 k l) = ((w k : ℝ) : EReal)) :
    k0_pay18 x s (ix2 r l) = ((∑ k, X k * w k : ℝ) : EReal) := by
  rw [coe_sum]
  pointwise [k0_pay18, k0_pay17, k0_pay16]
  exact Finset.sum_congr rfl fun k _ => by rw [hx, hw, EReal.coe_mul]

/-- The row's mean. -/
theorem pay19_at : k0_pay19 x (sigOf d) (ix2 r 0) = ((mean X : ℝ) : EReal) := by
  have h := pay18_at x r X hx (sigOf d) 72 (fun _ => 1) (fun k => by rw [sig_one]; simp)
  pointwise [k0_pay19]
  rw [h, c_inv2048, ← EReal.coe_mul]
  congr 1
  simp only [mul_one, mean]; ring

/-- The reciprocal of the row's deviation. -/
theorem pay20_at : k0_pay20 x (sigOf d) (ix2 r 0) = (((sd X)⁻¹ : ℝ) : EReal) := by
  have h := pay19_at x d r X hx
  pointwise [k0_pay20, k0_pay16]
  have hs : ∑ k : Fin 2048, x (ix2 r k) * x (ix2 r k) = ((∑ k, X k * X k : ℝ) : EReal) := by
    rw [coe_sum]; exact Finset.sum_congr rfl fun k _ => by rw [hx, EReal.coe_mul]
  rw [hs, h, c_2048, c_eps, div_real _ _ (by norm_num), ← EReal.coe_mul, ← EReal.coe_sub, ← EReal.coe_add, var_eq, Ideal.rsqrt_coe]
  have hp := add_pos_of_nonneg_of_pos (var_nonneg X) eps_pos
  rw [if_neg (not_lt.mpr hp.le), if_neg hp.ne']; rfl

/-- The columns' sums. -/
theorem pay13_at (l : Fin 128) (w : Fin 2048 → ℝ) (hw : ∀ k, sigOf d (ix2 k l) = ((w k : ℝ) : EReal)) :
    k0_pay13 (k0_pay12 (sigOf d)) (ix2 0 l) = ((∑ k, w k : ℝ) : EReal) := by
  rw [coe_sum]
  pointwise [k0_pay13, k0_pay12]
  exact Finset.sum_congr rfl fun k _ => hw k

/-- A tile's score: the deviation times the normalized row's product. -/
theorem pay21_at (t : Fin 64) : k0_pay21 x (sigOf d) (k0_pay13 (k0_pay12 (sigOf d))) (ix2 r t)
    = ((sd X * lin X (tileSg (fun t k => d (ix2 k t)) t) : ℝ) : EReal) := by
  have h18 := pay18_at x r X hx (sigOf d) (colT t) (tileSg (fun t k => d (ix2 k t)) t) (fun k => sig_T d k t)
  have h13 := pay13_at x d r X hx (colT t) (tileSg (fun t k => d (ix2 k t)) t) (fun k => sig_T d k t)
  rw [← sd_mul_lin, EReal.coe_sub, EReal.coe_mul (mean X), ← h18, ← h13, ← pay19_at x d r X hx]
  pointwise [k0_pay21]

/-- A cluster's score before the search. -/
theorem cl_at (c : Fin 8) : k0_pay18 x (sigOf d) (ix2 r (colC c)) - k0_pay19 x (sigOf d) (ix2 r 0) * k0_pay13 (k0_pay12 (sigOf d)) (ix2 0 (colC c))
    = ((sd X * lin X (clSg (fun t k => d (ix2 k t)) c) : ℝ) : EReal) := by
  have h18 := pay18_at x r X hx (sigOf d) (colC c) (clSg (fun t k => d (ix2 k t)) c) (fun k => sig_C d k c)
  have h13 := pay13_at x d r X hx (colC c) (clSg (fun t k => d (ix2 k t)) c) (fun k => sig_C d k c)
  rw [← sd_mul_lin, EReal.coe_sub, EReal.coe_mul (mean X), ← h18, ← h13, ← pay19_at x d r X hx]

/-- The cluster the kernel finds. -/
theorem pay22_at (c : Fin 8) (hc : IsAmax (fun c => lin X (clSg (fun t k => d (ix2 k t)) c)) c) :
    k0_pay22 x (sigOf d) (k0_pay13 (k0_pay12 (sigOf d))) (ix1 r) = BitVec.ofNat 32 c.val := by
  have hf := fun c => cl_at x d r X hx c
  have hs := hc.scale (sd X) (sd_pos X) fun _ => rfl
  refine Eq.trans ?_ (kernel_argmax 8 (fun c : Fin 8 => ((sd X * lin X (clSg (fun t k => d (ix2 k t)) c) : ℝ) : EReal)) c
    (fun j => EReal.coe_le_coe_iff.mpr (hs.1 j)) (fun j hj => EReal.coe_lt_coe_iff.mpr (hs.2 j hj)) le_rfl (by decide)
    (Ideal.ofBits .f32 4286578688#32) c_bot 8#32 rfl)
  pointwise [k0_pay22]
  exact congrArg (fun f : Fin 8 → EReal => Finset.fold IntOp.minsi 2147483647#32 (fun c : Fin 8 =>
    if f c = Finset.fold max (Ideal.ofBits .f32 4286578688#32) f Finset.univ then BitVec.ofNat 32 c.val else 8#32) Finset.univ) (funext hf)

/-- The tile the kernel finds. -/
theorem pay23_at (c l : Fin 8) (h : Routed X (fun t k => d (ix2 k t)) c l) :
    k0_pay23 (k0_pay21 x (sigOf d) (k0_pay13 (k0_pay12 (sigOf d)))) (k0_pay22 x (sigOf d) (k0_pay13 (k0_pay12 (sigOf d)))) (ix2 r 0)
      = BitVec.ofNat 32 (tl c l).val := by
  have hs := h.2.scale (sd X) (sd_pos X) fun _ => rfl
  have hf := fun t => pay21_at x d r X hx t
  have hdiv : (tl c l).val / 8 = c.val := by have := l.isLt; simp only [tl]; omega
  refine Eq.trans ?_ (kernel_argmax 64 (fun t : Fin 64 => if t.val / 8 = c.val then ((sd X * lin X (tileSg (fun t k => d (ix2 k t)) t) : ℝ) : EReal) else ⊥) (tl c l)
    (fun j => ?_) (fun j hj => ?_) le_rfl (by decide)
    (Ideal.ofBits .f32 4286578688#32) c_bot 64#32 rfl)
  · have hm : ∀ t : Fin 64, Scalar.select (IntOp.cmpi .eq (fdiv8 (BitVec.ofNat 32 t.val)) (k0_pay22 x (sigOf d) (k0_pay13 (k0_pay12 (sigOf d))) (ix1 r)))
        (k0_pay21 x (sigOf d) (k0_pay13 (k0_pay12 (sigOf d))) (ix2 r t)) (Ideal.ofBits .f32 4286578688#32)
        = if t.val / 8 = c.val then ((sd X * lin X (tileSg (fun t k => d (ix2 k t)) t) : ℝ) : EReal) else ⊥ := fun t => by
      rw [hf t, pay22_at x d r X hx c h.1, fdiv8_tl t, select_eq, c_bot]
      have e : (BitVec.ofNat 32 (t.val / 8) = BitVec.ofNat 32 c.val) ↔ t.val / 8 = c.val := ofNat_inj (by omega) (by omega)
      simp only [e]
    pointwise [k0_pay23]
    exact congrArg (fun f : Fin 64 → EReal => Finset.fold IntOp.minsi 2147483647#32 (fun c : Fin 64 =>
      if f c = Finset.fold max (Ideal.ofBits .f32 4286578688#32) f Finset.univ then BitVec.ofNat 32 c.val else 64#32) Finset.univ) (funext hm)
  · rw [if_pos hdiv]
    split_ifs with hj
    · obtain ⟨i, rfl⟩ := exists_tl c j hj
      exact EReal.coe_le_coe_iff.mpr (hs.1 i)
    · exact bot_le
  · rw [if_pos hdiv]
    split_ifs with hj'
    · obtain ⟨i, rfl⟩ := exists_tl c j hj'
      exact EReal.coe_lt_coe_iff.mpr (hs.2 i (by rw [Fin.lt_def] at hj ⊢; simp only [tl] at hj; omega))
    · exact EReal.bot_lt_coe _

end Scores

/-! ## The activation's coordinates -/

/-- A hidden unit's argument. -/
theorem hid_at (X : Fin 2048 → ℝ) (hx : ∀ k, x (ix2 r k) = ((X k : ℝ) : EReal)) (W : Fin 2048 → Fin 512 → ℝ) (hw : ∀ k j, w1 (ix2 k j) = ((W k j : ℝ) : EReal)) (j : Fin 512) :
    (k0_pay24 (k0_pay17 x) (k0_pay10 w1) (ix2 r j) - k0_pay25 (k0_pay19 x (sigOf d)) (k0_pay14 (k0_pay10 w1)) (ix2 r j)) * k0_pay20 x (sigOf d) (ix2 r 0)
      = ((lin X fun k => W k j : ℝ) : EReal) := by
  have h24 : k0_pay24 (k0_pay17 x) (k0_pay10 w1) (ix2 r j) = ((∑ k, X k * W k j : ℝ) : EReal) := by
    rw [coe_sum]
    pointwise [k0_pay24, k0_pay17, k0_pay16, k0_pay10]
    exact Finset.sum_congr rfl fun k _ => by rw [hx, hw, EReal.coe_mul]
  have h14 : k0_pay14 (k0_pay10 w1) (ix2 0 j) = ((∑ k, W k j : ℝ) : EReal) := by
    rw [coe_sum]
    pointwise [k0_pay14, k0_pay10]
    exact Finset.sum_congr rfl fun k _ => hw k j
  have h25 : k0_pay25 (k0_pay19 x (sigOf d)) (k0_pay14 (k0_pay10 w1)) (ix2 r j) = ((mean X * ∑ k, W k j : ℝ) : EReal) := by
    rw [EReal.coe_mul, ← h14, ← pay19_at x d r X hx]
    pointwise [k0_pay25]
  rw [h24, h25, pay20_at x d r X hx, ← EReal.coe_sub, ← EReal.coe_mul]
  congr 1
  rw [sd_mul_lin X fun k => W k j]
  have := (sd_pos X).ne'
  field_simp

/-- One of the two coordinates. -/
theorem pay26_at (X : Fin 2048 → ℝ) (hx : ∀ k, x (ix2 r k) = ((X k : ℝ) : EReal)) (W : Fin 2048 → Fin 512 → ℝ) (hw : ∀ k j, w1 (ix2 k j) = ((W k j : ℝ) : EReal)) (e : Fin 128) :
    k0_pay26 (k0_pay20 x (sigOf d)) (k0_pay24 (k0_pay17 x) (k0_pay10 w1)) (k0_pay25 (k0_pay19 x (sigOf d)) (k0_pay14 (k0_pay10 w1))) w2 (ix2 r e)
      = ab X W fun j => w2 (ix2 j e) := by
  unfold ab
  pointwise [k0_pay26]
  refine congrArg Ideal.tanh (Finset.sum_congr rfl fun j _ => ?_)
  rw [hid_at x w1 d r X hx W hw j]; rfl

/-- The grid cell's row index. -/
theorem pay29_at (v20 v81 v85 w2) : k0_pay29 (F := Ideal) v20 v81 v85 w2 (ix2 r 0) = ia (k0_pay26 v20 v81 v85 w2 (ix2 r 0)) := by
  unfold ia fa
  rw [← c_8]
  pointwise [k0_pay29, k0_pay28, k0_pay27]
  rfl

/-- The grid cell's column index. -/
theorem pay30_at (v20 v81 v85 w2) : k0_pay30 (F := Ideal) v20 v81 v85 w2 (ix2 r 0) = ia (k0_pay26 v20 v81 v85 w2 (ix2 r 1)) := by
  unfold ia fa
  rw [← c_8]
  pointwise [k0_pay30, k0_pay28, k0_pay27]
  rfl

/-- The row offset. -/
theorem pay31_at (v20 v81 v85 w2) : k0_pay31 (F := Ideal) v20 v81 v85 w2 (ix2 r 0) = fr (k0_pay26 v20 v81 v85 w2 (ix2 r 0)) := by
  unfold fr
  rw [← pay29_at]
  unfold fa
  rw [← c_8]
  pointwise [k0_pay31, k0_pay28, k0_pay27]
  rfl

/-- The column offset. -/
theorem pay32_at (v20 v81 v85 w2) : k0_pay32 (F := Ideal) v20 v81 v85 w2 (ix2 r 0) = fr (k0_pay26 v20 v81 v85 w2 (ix2 r 1)) := by
  unfold fr
  rw [← pay30_at]
  unfold fa
  rw [← c_8]
  pointwise [k0_pay32, k0_pay28, k0_pay27]
  rfl

/-- The row of the coefficients' table. -/
theorem pay33_at (v20 v79 v81 v85 w2) (k : Fin 1024) : k0_pay33 (F := Ideal) v20 v79 v81 v85 w2 (ix2 r k)
    = IntOp.addi (IntOp.muli (v79 (ix2 r 0)) 16#32) (ia (k0_pay26 v20 v81 v85 w2 (ix2 r 0))) := by
  rw [← pay29_at]
  pointwise [k0_pay33]

/-! ## The row's result -/

/-- The coefficients' ternary values. -/
theorem pay15_at (k : Fin 1024) (j : Fin 128) : k0_pay15 q (ix2 k j) = tern (q (ix2 k j)) := by
  unfold tern
  rw [← c_neg1]
  pointwise [k0_pay15]

/-- A column of the coefficients' table: place `b` of coefficient `e`. -/
abbrev colQ (e : Fin 3) (b : Fin 16) : Fin 128 := ⟨16 * e.val + b.val, by omega⟩
/-- A row of the coefficients' table: row `a` of tile `t`. -/
abbrev rowQ (t : Fin 64) (a : Fin 16) : Fin 1024 := ⟨16 * t.val + a.val, by omega⟩

/-- The gathers by one-hot rows, and the sum. -/
theorem pay1_at (v4 : FVec Ideal S1024x2048 .f32) (v79 : IVec S1024x1 32) (v121 : IVec S1024x1 32) (v123 v125 : FVec Ideal S1024x1 .f32) (v130 : IVec S1024x1024 32)
    (tq : Vec Ideal S1024x128 .bf16) (dirs' : Vec Ideal S64x2048 .bf16) (j : Fin 2048) (T : Fin 64) (A B : Fin 16)
    (h79 : v79 (ix2 r 0) = BitVec.ofNat 32 T.val) (h121 : v121 (ix2 r 0) = BitVec.ofNat 32 B.val) (h130 : ∀ k, v130 (ix2 r k) = BitVec.ofNat 32 (rowQ T A).val) :
    k0_pay1 v4 (iota .tc S1024x64 32 [1] iota_S1024x64_d1_w32) v79 v121 v123 v125 (iota .tc S1024x1024 32 [1] iota_S1024x1024_d1_w32) v130 tq os dirs' (ix2 r j)
      = v4 (ix2 r j) + dirs' (ix2 T j) * ((tq (ix2 (rowQ T A) (colQ 0 B)) + tq (ix2 (rowQ T A) (colQ 1 B)) * v123 (ix2 r 0) + tq (ix2 (rowQ T A) (colQ 2 B)) * v125 (ix2 r 0)) * os (ix2 0 0)) := by
  have one : ∀ a b : BitVec 32, FloatOps.sitofp (F := Ideal) .f32 (BitVec.setWidth 32 (IntOp.cmpi .eq a b)) = if a = b then (1 : EReal) else 0 := onehot
  have hrow : ∀ l : Fin 128, (∑ x : Fin 1024, (if BitVec.ofNat 32 x.val = BitVec.ofNat 32 (rowQ T A).val then (1 : EReal) else 0) * tq (ix2 x l)) = tq (ix2 (rowQ T A) l) :=
    fun l => sum_onehot (by decide) (rowQ T A) fun x => tq (ix2 x l)
  pointwise [k0_pay1]
  simp only [one, h79, h121, h130, hrow]
  refine congrArg₂ (· + ·) rfl (congrArg₂ (· * ·) (sum_onehot (by decide) T fun x => dirs' (ix2 x j)) (congrArg₂ (· * ·) (congrArg₂ (· + ·) (congrArg₂ (· + ·) ?_ (congrArg₂ (· * ·) ?_ rfl)) (congrArg₂ (· * ·) ?_ rfl)) rfl))
  · refine (sum_onehot' (by decide) B fun x : Fin 16 => tq (ix2 (rowQ T A) ⟨x.val, by omega⟩)).trans ?_
    exact congrArg (fun l => tq (ix2 (rowQ T A) l)) (Fin.ext (by show B.val = 16 * 0 + B.val; omega))
  · exact sum_onehot' (by decide) B fun x : Fin 16 => tq (ix2 (rowQ T A) ⟨16 + x.val, by omega⟩)
  · exact sum_onehot' (by decide) B fun x : Fin 16 => tq (ix2 (rowQ T A) ⟨32 + x.val, by omega⟩)

/-- A row's number in the coefficients' table, as the kernel computes it. -/
theorem row_word (T : Fin 64) (A : Fin 16) : IntOp.addi (IntOp.muli (BitVec.ofNat 32 T.val) 16#32) (BitVec.ofNat 32 A.val) = BitVec.ofNat 32 (rowQ T A).val := by
  apply BitVec.eq_of_toNat_eq
  show (BitVec.ofNat 32 T.val * 16#32 + BitVec.ofNat 32 A.val).toNat = _
  simp only [BitVec.toNat_add, BitVec.toNat_mul, BitVec.toNat_ofNat]
  omega

/-- An entry of the body's block: the row's entry, plus the tile's direction times the spline's value. -/
theorem body_at (X : Fin 2048 → ℝ) (hx : ∀ k, x (ix2 r k) = ((X k : ℝ) : EReal)) (W : Fin 2048 → Fin 512 → ℝ) (hw : ∀ k j, w1 (ix2 k j) = ((W k j : ℝ) : EReal))
    (c l : Fin 8) (h : Routed X (fun t k => d (ix2 k t)) c l) (C : Fin 64 → Fin 16 → Fin 16 → Fin 3 → EReal)
    (hq : ∀ t a b e, q (ix2 (rowQ t a) (colQ e b)) = C t a b e) (j : Fin 2048) :
    body x w2 os (sigOf d) (k0_pay15 q) (k0_pay10 w1) (k0_pay11 dirs) (k0_pay13 (k0_pay12 (sigOf d))) (k0_pay14 (k0_pay10 w1)) (ix2 r j)
      = x (ix2 r j) + dirs (ix2 (tl c l) j)
        * (spl (C (tl c l)) (ab X W fun j => w2 (ix2 j (0 : Fin 128))) (ab X W fun j => w2 (ix2 j (1 : Fin 128))) * os (ix2 0 0)) := by
  have h79 := pay23_at x d r X hx c l h
  have a0 := pay26_at x w1 w2 d r X hx W hw 0
  have a1 := pay26_at x w1 w2 d r X hx W hw 1
  have h16 : k0_pay16 x (ix2 r j) = x (ix2 r j) := by pointwise [k0_pay16]
  have h11 : ∀ t, k0_pay11 dirs (ix2 t j) = dirs (ix2 t j) := fun t => by pointwise [k0_pay11]
  unfold body
  refine (pay1_at os r _ _ _ _ _ _ _ _ j (tl c l) (cell (ab X W fun j => w2 (ix2 j (0 : Fin 128)))) (cell (ab X W fun j => w2 (ix2 j (1 : Fin 128)))) h79 ?_ fun k => ?_).trans ?_
  · rw [pay30_at, a1, ia_eq]
  · rw [pay33_at, a0, ia_eq, h79, row_word]
  · rw [h16, h11, pay15_at, pay15_at, pay15_at, pay31_at, pay32_at, a0, a1, hq, hq, hq]
    rfl

end Cert.Proof.KerRow

end
-- ==== Proof.KerValue.lean ====
/- The kernel's result array after the run, block by block, as the body over the arrays the region finds. -/
module

public import proofs.«01_k».proof.Proof.KerBody
public import Idealize.ShloMosaic.Lib.Pipeline.ValueKit
public import Idealize.ShloMosaic.Lib.Pipeline.FrameTail
public import Idealize.ShloMosaic.Lib.Claim

@[expose] public section

set_option maxRecDepth 16384

noncomputable section

namespace Cert.Proof.KerValue

open Cert.KernelIdeal Cert.KernelIdeal.Gen Idealize.ShloMosaic Idealize.ShloMosaic.TcCoe Idealize.SL.Sem Cert.Proof.KerBody
open Idealize.ShloMosaic.Pipeline (Dat)

variable (m : (ℓ : Loc nD τ sig) → Buf (Elt Ideal) ℓ)

/-- The windows' block indices at every point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

/-- The rows as the region finds them. -/
abbrev aX (c : Dev nD) : FVec Ideal S8192x2048 .f32 := V m c main_call0_v0
/-- The compression weights, as the kernel receives them. -/
abbrev aW1 (c : Dev nD) : FVec Ideal S2048x512 .f32 := V m c main_arg3
/-- The second layer's weights, widened to 128 columns. -/
abbrev aW2 (c : Dev nD) : FVec Ideal S512x128 .bf16 := V m c main_call0_v4
/-- The transposed directions. -/
abbrev aDT (c : Dev nD) : FVec Ideal S2048x64 .f32 := V m c main_call0_v5
/-- The directions. -/
abbrev aD (c : Dev nD) : FVec Ideal S64x2048 .f32 := V m c main_arg7
/-- The spline table, laid out in rows. -/
abbrev aQ (c : Dev nD) : FVec Ideal S1024x128 .f32 := V m c main_call0_v10
/-- The output scale. -/
abbrev aO (c : Dev nD) : FVec Ideal S1x1 .f32 := V m c main_call0_v11

/-- The block of the compression weights is the whole array. -/
theorem blk1 (c : Dev nD) (t : Fin cfg0.N) : iblk m c 1 t = aW1 m c := by blk_ext! [iblk, idx t]
/-- The block of the second layer's weights is the whole array. -/
theorem blk2 (c : Dev nD) (t : Fin cfg0.N) : iblk m c 2 t = aW2 m c := by blk_ext! [iblk, idx t]
/-- The block of the transposed directions is the whole array. -/
theorem blk3 (c : Dev nD) (t : Fin cfg0.N) : iblk m c 3 t = aDT m c := by blk_ext! [iblk, idx t]
/-- The block of the directions is the whole array. -/
theorem blk4 (c : Dev nD) (t : Fin cfg0.N) : iblk m c 4 t = aD m c := by blk_ext! [iblk, idx t]
/-- Window 5's block is its whole array. -/
theorem read5 (A : FVec Ideal S1024x128 .f32) (t : Fin cfg0.N) : ((cfg0.win 5).blk t).view.read (Elt Ideal) A = A := by funext y; blk_ext [idx t]
/-- The block of the spline table is the whole array. -/
theorem blk5 (c : Dev nD) (t : Fin cfg0.N) : iblk m c 5 t = aQ m c := read5 _ t
/-- The block of the output scale is the whole array. -/
theorem blk6 (c : Dev nD) (t : Fin cfg0.N) : iblk m c 6 t = aO m c := by blk_ext! [iblk, idx t]

/-- What the scratch holds after every point. -/
theorem scratch (c : Dev nD) : ∀ (n : ℕ) (hn : n < cfg0.N), (outsAt0 m c n hn).2
    = (sigOf (aDT m c), k0_pay15 (F := Ideal) (aQ m c), k0_pay10 (F := Ideal) (aW1 m c), k0_pay11 (F := Ideal) (aD m c), k0_pay13 (F := Ideal) (k0_pay12 (F := Ideal) (sigOf (aDT m c))), k0_pay14 (F := Ideal) (k0_pay10 (F := Ideal) (aW1 m c)))
  | n, hn => by
    by_cases h0 : n % 8 = 0
    · have e := outsAt0_A m c ⟨n, hn⟩ h0
      dsimp only at e
      rw [e, sout_A_0, sout_A_1, sout_A_2, sout_A_3, sout_A_4, sout_A_5, blk1, blk3, blk4, blk5]
    · have e := outsAt0_B m c ⟨n, hn⟩ h0
      dsimp only at e
      have ih := scratch c (n - 1) (Nat.lt_of_le_of_lt (Nat.sub_le _ _) hn)
      rw [e]
      unfold sout0_B_0 sout0_B_1 sout0_B_2 sout0_B_3 sout0_B_4 sout0_B_5
      exact ih
  termination_by n => n
  decreasing_by omega

/-- The output block of every point. -/
theorem outs (c : Dev nD) (t : Fin cfg0.N) : (outsAt0 m c t.val t.isLt).1
    = body (iblk m c 0 t) (aW2 m c) (aO m c) (sigOf (aDT m c)) (k0_pay15 (F := Ideal) (aQ m c)) (k0_pay10 (F := Ideal) (aW1 m c)) (k0_pay11 (F := Ideal) (aD m c)) (k0_pay13 (F := Ideal) (k0_pay12 (F := Ideal) (sigOf (aDT m c)))) (k0_pay14 (F := Ideal) (k0_pay10 (F := Ideal) (aW1 m c))) := by
  by_cases h0 : t.val % 8 = 0
  · rw [outsAt0_A m c t h0, out_A, blk1, blk2, blk3, blk4, blk5, blk6]
  · rw [outsAt0_B m c t h0, out_B, scratch, blk2, blk6]

end Cert.Proof.KerValue

end
-- ==== Proof.HostIn.lean ====
/- The arrays the host lines prepare for the kernel, read at an entry of the arguments. -/
module

public import proofs.«01_k».proof.Proof.KerRow
public import proofs.«01_k».proof.Proof.KerValue

@[expose] public section

set_option maxRecDepth 16384

noncomputable section

namespace Cert.Proof.HostIn

open Cert.KernelIdeal Cert.KernelIdeal.Gen Idealize.ShloMosaic Idealize.ShloMosaic.TcCoe Idealize.SL.Sem Cert.Proof.Math Cert.Proof.KerRow Cert.Proof.KerValue

/-- A scatter that overwrites, every update of which lands at its own place: at such a place stands the update. -/
theorem scatter_write {α : Type} {w : ℕ} {s si u : Shape} (d : ScatterDims s si u) (x : s.Idx → α) (idx : IVec si w) (upd : u.Idx → α)
    (g : u.Idx → s.Idx) (hg : Function.Injective g) (h : ∀ j, d.resultIdx? j idx = some (g j)) (j : u.Idx) :
    Host.scatter d (fun _ b => b) x idx upd (g j) = upd j := by
  have key : ∀ (L : List (Fin u.numel)) (r : s.Idx → α),
      (L.foldl (fun r n => match d.resultIdx? (u.rowMajor.symm n) idx with
        | some i => fun i' => if i' = i then (fun _ b => b) (r i) (upd (u.rowMajor.symm n)) else r i'
        | none => r) r) (g j) = if u.rowMajor j ∈ L then upd j else r (g j) := by
    intro L
    induction L with
    | nil => intro r; simp
    | cons n L ih =>
      intro r
      rw [List.foldl_cons, ih, h]
      by_cases e1 : u.rowMajor j ∈ L
      · rw [if_pos e1, if_pos (List.mem_cons_of_mem _ e1)]
      · rw [if_neg e1]
        by_cases e2 : u.rowMajor j = n
        · subst e2
          simp
        · rw [if_neg (by simp [e1, e2])]
          have : g j ≠ g (u.rowMajor.symm n) := fun e => e2 (by rw [hg e, Equiv.apply_symm_apply])
          simp [this]
  exact (key _ _).trans (if_pos (List.mem_finRange _))

/-- Where the second projection's columns land: in the first columns of the wide array. -/
theorem land_w2 (idx : IVec S1 32) (hi : ∀ i, idx i = 0#32) (j : S512x2.Idx) :
    scatter_S512x128_S1_S512x2_01_n_1_0.resultIdx? j idx = some (ix2 (j 0) (⟨(j 1).val, Nat.lt_trans (j 1).isLt (by decide)⟩ : Fin 128)) := by
  have s0 : ∀ a, scatter_S512x128_S1_S512x2_01_n_1_0.start j idx a = 0 := by
    intro a
    unfold ScatterDims.start
    split
    · rw [hi]; rfl
    · rfl
  have w0 : scatter_S512x128_S1_S512x2_01_n_1_0.window j 0 = (j 0).val := by
    unfold ScatterDims.window
    rw [dif_pos (show (0 : Fin 2) ∈ scatter_S512x128_S1_S512x2_01_n_1_0.sKept by decide)]; rfl
  have w1 : scatter_S512x128_S1_S512x2_01_n_1_0.window j 1 = (j 1).val := by
    unfold ScatterDims.window
    rw [dif_pos (show (1 : Fin 2) ∈ scatter_S512x128_S1_S512x2_01_n_1_0.sKept by decide)]; rfl
  have b0 : (j 0).val < 512 := (j 0).isLt
  have b1 : (j 1).val < 2 := (j 1).isLt
  unfold ScatterDims.resultIdx?
  rw [dif_pos (by
    intro a
    rw [s0]
    rcases (show a = 0 ∨ a = 1 by revert a; decide) with e | e <;> subst e
    · rw [w0]; show _ ∧ _ < ((512 : ℕ) : ℤ); omega
    · rw [w1]; show _ ∧ _ < ((128 : ℕ) : ℤ); omega)]
  congr 1
  funext a
  apply Fin.ext
  show (scatter_S512x128_S1_S512x2_01_n_1_0.start j idx a + scatter_S512x128_S1_S512x2_01_n_1_0.window j a).toNat = _
  rw [s0]
  rcases (show a = 0 ∨ a = 1 by revert a; decide) with e | e <;> subst e
  · rw [w0]; show _ = (j 0).val; omega
  · rw [w1]; show _ = (j 1).val; omega

/-- Where the tables land: in the first columns of the wide array. -/
theorem land_q (idx : IVec S1 32) (hi : ∀ i, idx i = 0#32) (j : S1024x48.Idx) :
    scatter_S1024x128_S1_S1024x48_01_n_1_0.resultIdx? j idx = some (ix2 (j 0) (⟨(j 1).val, Nat.lt_trans (j 1).isLt (by decide)⟩ : Fin 128)) := by
  have s0 : ∀ a, scatter_S1024x128_S1_S1024x48_01_n_1_0.start j idx a = 0 := by
    intro a
    unfold ScatterDims.start
    split
    · rw [hi]; rfl
    · rfl
  have w0 : scatter_S1024x128_S1_S1024x48_01_n_1_0.window j 0 = (j 0).val := by
    unfold ScatterDims.window
    rw [dif_pos (show (0 : Fin 2) ∈ scatter_S1024x128_S1_S1024x48_01_n_1_0.sKept by decide)]; rfl
  have w1 : scatter_S1024x128_S1_S1024x48_01_n_1_0.window j 1 = (j 1).val := by
    unfold ScatterDims.window
    rw [dif_pos (show (1 : Fin 2) ∈ scatter_S1024x128_S1_S1024x48_01_n_1_0.sKept by decide)]; rfl
  have b0 : (j 0).val < 1024 := (j 0).isLt
  have b1 : (j 1).val < 48 := (j 1).isLt
  unfold ScatterDims.resultIdx?
  rw [dif_pos (by
    intro a
    rw [s0]
    rcases (show a = 0 ∨ a = 1 by revert a; decide) with e | e <;> subst e
    · rw [w0]; show _ ∧ _ < ((1024 : ℕ) : ℤ); omega
    · rw [w1]; show _ ∧ _ < ((128 : ℕ) : ℤ); omega)]
  congr 1
  funext a
  apply Fin.ext
  show (scatter_S1024x128_S1_S1024x48_01_n_1_0.start j idx a + scatter_S1024x128_S1_S1024x48_01_n_1_0.window j a).toNat = _
  rw [s0]
  rcases (show a = 0 ∨ a = 1 by revert a; decide) with e | e <;> subst e
  · rw [w0]; show _ = (j 0).val; omega
  · rw [w1]; show _ = (j 1).val; omega

/-- The widened second projection at one of its first columns. -/
theorem wide_w2 (x : FVec Ideal S512x128 .bf16) (idx : IVec S1 32) (hi : ∀ i, idx i = 0#32) (u : FVec Ideal S512x2 .bf16) (j : Fin 512) (e : Fin 2) :
    Host.scatter scatter_S512x128_S1_S512x2_01_n_1_0 (fun _ b => b) x idx u (ix2 j (⟨e.val, by omega⟩ : Fin 128)) = u (ix2 j e) :=
  scatter_write _ x idx u (fun j => ix2 (j 0) (⟨(j 1).val, Nat.lt_trans (j 1).isLt (by decide)⟩ : Fin 128))
    (fun a b h => by
      funext k
      apply Fin.ext
      rcases (show k = 0 ∨ k = 1 by revert k; decide) with e | e <;> subst e
      · exact congrArg Fin.val (congrFun h (0 : Fin 2))
      · exact congrArg (fun i : S512x128.Idx => (i 1).val) h)
    (land_w2 idx hi) (ix2 j e)

/-- The widened tables at one of their first columns. -/
theorem wide_q (x : FVec Ideal S1024x128 .f32) (idx : IVec S1 32) (hi : ∀ i, idx i = 0#32) (u : FVec Ideal S1024x48 .f32) (j : Fin 1024) (e : Fin 48) :
    Host.scatter scatter_S1024x128_S1_S1024x48_01_n_1_0 (fun _ b => b) x idx u (ix2 j (⟨e.val, by omega⟩ : Fin 128)) = u (ix2 j e) :=
  scatter_write _ x idx u (fun j => ix2 (j 0) (⟨(j 1).val, Nat.lt_trans (j 1).isLt (by decide)⟩ : Fin 128))
    (fun a b h => by
      funext k
      apply Fin.ext
      rcases (show k = 0 ∨ k = 1 by revert k; decide) with e | e <;> subst e
      · exact congrArg Fin.val (congrFun h (0 : Fin 2))
      · exact congrArg (fun i : S1024x128.Idx => (i 1).val) h)
    (land_q idx hi) (ix2 j e)

variable (m : (ℓ : Loc nD τ sig) → Buf (Elt Ideal) ℓ) (c : Dev nD)

section Lines
attribute [local irreducible] Host.scatter

/-- The rows: the input reshaped. -/
theorem x_eq : aX m c = shapeCast S8192x2048 (m ((c : Thread nD τ).loc main_arg0) : FVec Ideal S4x2048x2048 .f32) shapeCasts_S4x2048x2048_S8192x2048 := by
  unfold aX V V0
  simp only [List.flatten_cons, List.flatten_nil, List.append_nil, StableHlo.after_cons, StableHlo.after_nil]
  after_results_simp
  rfl

/-- The directions transposed. -/
theorem dt_eq : aDT m c = transpose S2048x64 [1, 0] (m ((c : Thread nD τ).loc main_arg7) : FVec Ideal S64x2048 .f32) transposes_S64x2048_S2048x64_1_0 := by
  unfold aDT V V0
  simp only [List.flatten_cons, List.flatten_nil, List.append_nil, StableHlo.after_cons, StableHlo.after_nil]
  after_results_simp
  simp only [StableHlo.TRef.toBuf, StableHlo.TRef.ofBuf, cast_eq]

/-- The second projection widened. -/
theorem w2_eq : aW2 m c = Host.scatter scatter_S512x128_S1_S512x2_01_n_1_0 (fun _ b => b) (broadcastInDim S512x128 ![] bcast_S_S512x128 (constant (F := Ideal) S_ .bf16 0x0000#16))
    (broadcastInDim S1 ![] bcast_S_S1 (constantI S_ 32 0#32)) (truncf .bf16 (m ((c : Thread nD τ).loc main_arg5) : FVec Ideal S512x2 .f32) bitsLt_bf16_f32) := by
  unfold aW2 V V0
  simp only [List.flatten_cons, List.flatten_nil, List.append_nil, StableHlo.after_cons, StableHlo.after_nil]
  after_results_simp
  simp only [StableHlo.TRef.toBuf, StableHlo.TRef.ofBuf, cast_eq]

/-- The tables laid out as rows. -/
theorem q7_eq : (V m c main_call0_v7 : FVec Ideal S1024x48 .f32)
    = shapeCast S1024x48 (transpose S64x16x3x16 [0, 1, 3, 2] (m ((c : Thread nD τ).loc main_arg8) : FVec Ideal S64x16x16x3 .f32) transposes_S64x16x16x3_S64x16x3x16_0_1_3_2) shapeCasts_S64x16x3x16_S1024x48 := by
  unfold V V0
  simp only [List.flatten_cons, List.flatten_nil, List.append_nil, StableHlo.after_cons, StableHlo.after_nil]
  after_results_simp
  simp only [StableHlo.TRef.toBuf, StableHlo.TRef.ofBuf, cast_eq]
  rfl

/-- The typed reference of the tables' wide buffer changes nothing. -/
theorem ref10 (p q r) (G : FVec Ideal S1024x128 .f32) :
    (StableHlo.TRef.of main_call0_v10 p q r : StableHlo.TRef sig ⟨S1024x128, .f32⟩).toBuf (Val := Elt Ideal) G = G := rfl
/-- The typed reference of the tables' rows changes nothing. -/
theorem ref7 (p q r) (G : FVec Ideal S1024x48 .f32) :
    (StableHlo.TRef.of main_call0_v7 p q r : StableHlo.TRef sig ⟨S1024x48, .f32⟩).ofBuf (Val := Elt Ideal) G = G := rfl
/-- Both at the scatter between them. -/
theorem q_refs (p q r p' q' r') (x : FVec Ideal S1024x128 .f32) (i : IVec S1 32) (G : FVec Ideal S1024x48 .f32) :
    (StableHlo.TRef.of main_call0_v10 p q r : StableHlo.TRef sig ⟨S1024x128, .f32⟩).toBuf (Host.scatter scatter_S1024x128_S1_S1024x48_01_n_1_0 (fun _ b => b) x i
      ((StableHlo.TRef.of main_call0_v7 p' q' r' : StableHlo.TRef sig ⟨S1024x48, .f32⟩).ofBuf (Val := Elt Ideal) G)) = Host.scatter scatter_S1024x128_S1_S1024x48_01_n_1_0 (fun _ b => b) x i G :=
  (ref10 p q r _).trans (congrArg _ (ref7 p' q' r' G))

set_option maxHeartbeats 1000000 in
/-- The tables widened. -/
theorem q_eq : aQ m c = Host.scatter scatter_S1024x128_S1_S1024x48_01_n_1_0 (fun _ b => b) (broadcastInDim S1024x128 ![] bcast_S_S1024x128 (constant (F := Ideal) S_ .f32 0x00000000#32))
    (broadcastInDim S1 ![] bcast_S_S1 (constantI S_ 32 0#32)) (V m c main_call0_v7 : FVec Ideal S1024x48 .f32) := by
  unfold aQ V V0
  simp only [List.flatten_cons, List.flatten_nil, List.append_nil, StableHlo.after_cons, StableHlo.after_nil]
  after_results_simp
  simp only [StableHlo.TRef.ofBuf_toBuf]
  exact q_refs _ _ _ _ _ _ _ _ _

/-- The output's scale as a matrix. -/
theorem o_eq : aO m c = broadcastInDim S1x1 ![1] bcast_S1_S1x1_1 (m ((c : Thread nD τ).loc main_arg10) : FVec Ideal S1 .f32) := by
  unfold aO V V0
  simp only [List.flatten_cons, List.flatten_nil, List.append_nil, StableHlo.after_cons, StableHlo.after_nil]
  after_results_simp
  simp only [StableHlo.TRef.toBuf, StableHlo.TRef.ofBuf, cast_eq]

end Lines

/-- An entry of the input and of its rows at the same place. -/
theorem pos_eq (b : Fin 4) (s : Fin 2048) (n : Fin 8192) (k : Fin 2048) (h : n.val = b.val * 2048 + s.val) :
    (S4x2048x2048.rowMajor (ix3 b s k)).val = (S8192x2048.rowMajor (ix2 n k)).val := by
  rw [Shape.rowMajor_val_three, Shape.rowMajor_val_two]
  show (b.val * 2048 + s.val) * 2048 + k.val = n.val * 2048 + k.val
  omega

/-- The rows are the input's. -/
theorem x_at (n : Fin 8192) (k : Fin 2048) : aX m c (ix2 n k) = (m ((c : Thread nD τ).loc main_arg0) : FVec Ideal S4x2048x2048 .f32) (ix3 (⟨n.val / 2048, by omega⟩ : Fin 4) (⟨n.val % 2048, by omega⟩ : Fin 2048) k) := by
  rw [x_eq]
  exact shapeCast_apply _ _ _ _ (pos_eq _ _ n k (by show n.val = n.val / 2048 * 2048 + n.val % 2048; omega))

/-- The transposed directions. -/
theorem dt_at (k : Fin 2048) (t : Fin 64) : aDT m c (ix2 k t) = (m ((c : Thread nD τ).loc main_arg7) : FVec Ideal S64x2048 .f32) (ix2 t k) := by
  rw [dt_eq]
  pointwise

/-- The widened second projection. -/
theorem w2_at (j : Fin 512) (e : Fin 2) : aW2 m c (ix2 j (⟨e.val, by omega⟩ : Fin 128)) = (m ((c : Thread nD τ).loc main_arg5) : FVec Ideal S512x2 .f32) (ix2 j e) := by
  rw [w2_eq]
  exact wide_w2 _ _ (fun i => rfl) _ j e

/-- The widened tables. -/
theorem q_at (t : Fin 64) (a b : Fin 16) (e : Fin 3) : aQ m c (ix2 (rowQ t a) (colQ e b)) = (m ((c : Thread nD τ).loc main_arg8) : FVec Ideal S64x16x16x3 .f32) (ix4 t a b e) := by
  rw [q_eq]
  refine (wide_q _ _ (fun i => rfl) _ (rowQ t a) (⟨16 * e.val + b.val, by omega⟩ : Fin 48)).trans ?_
  rw [q7_eq]
  pointwise
  all_goals blk_ext

/-- The output's scale. -/
theorem o_at : aO m c (ix2 0 0) = (m ((c : Thread nD τ).loc main_arg10) : FVec Ideal S1 .f32) (ix1 0) := by
  rw [o_eq]
  pointwise

/-- The arguments that reach the kernel as they are. -/
theorem w1_eq : aW1 m c = (m ((c : Thread nD τ).loc main_arg3) : FVec Ideal S2048x512 .f32) := V_main_arg3 m c
/-- The array of directions is the argument itself. -/
theorem d_eq : aD m c = (m ((c : Thread nD τ).loc main_arg7) : FVec Ideal S64x2048 .f32) := V_main_arg7 m c

end Cert.Proof.HostIn

end
-- ==== Proof.KerRun.lean ====
/- The kernel's run, read: the result at an entry of the arguments, on rows of real numbers. -/
module

public import proofs.«01_k».proof.Proof.HostIn
public import Idealize.ShloMosaic.Lib.Quiescent

@[expose] public section

set_option maxRecDepth 16384

noncomputable section

namespace Cert.Proof.KerRun

open Cert.KernelIdeal Cert.KernelIdeal.Gen Idealize.ShloMosaic Idealize.ShloMosaic.TcCoe Idealize.SL.Sem Cert.Proof.Math Cert.Proof.KerRow Cert.Proof.KerBody Cert.Proof.KerValue Cert.Proof.HostIn

variable (m : (ℓ : Loc nD τ sig) → Buf (Elt Ideal) ℓ) (ρ : Dev nD → PrngReg)

/-- The result array of the run: any array whose blocks are what the body leaves. -/
theorem final (c : Dev nD) (G : FVec Ideal S8192x2048 .f32)
    (h : ∀ (t : Fin cfg0.N) (r : Fin 1024) (j : Fin 2048) (hn : t.val * 1024 + r.val < 8192),
      body (iblk m c 0 t) (aW2 m c) (aO m c) (sigOf (aDT m c)) (k0_pay15 (F := Ideal) (aQ m c)) (k0_pay10 (F := Ideal) (aW1 m c)) (k0_pay11 (F := Ideal) (aD m c))
        (k0_pay13 (F := Ideal) (k0_pay12 (F := Ideal) (sigOf (aDT m c)))) (k0_pay14 (F := Ideal) (k0_pay10 (F := Ideal) (aW1 m c))) (ix2 r j)
      = G (ix2 (⟨t.val * 1024 + r.val, hn⟩ : Fin 8192) j)) :
    (dats m 0 c).arrAt 7 cfg0.N = G := by
  refine (dats m 0 c).arrAt_eq_of_covers 7 G (by decide +kernel) fun t hf y => ?_
  blk_simp [idx t]
  rw [after0_7, outs]
  have ht : t.val < 8 := t.isLt
  have h0 : (y 0).val < 1024 := (y 0).isLt
  have hy : y = ix2 (y 0) (y 1) := eq_ix2 y
  have e := h t (y 0) (y 1) (by omega)
  refine (congrArg (body _ _ _ _ _ _ _ _ _) hy).trans (e.trans (congrArg G ?_))
  blk_ext [idx t]

/-- The result after the line behind the region: the result array under the input's shape. -/
theorem tail_v0 (c : Dev nD) (G : FVec Ideal S8192x2048 .f32) (h : (dats m 0 c).arrAt 7 cfg0.N = G) :
    Pipeline.afterTail₀ cfgs (dats m) 0 (V0 m) [hostOps1] c main_v0 = shapeCast S4x2048x2048 G shapeCasts_S8192x2048_S4x2048x2048 := by
  unfold Pipeline.afterTail₀
  simp only [List.flatten_cons, List.flatten_nil, List.append_nil, StableHlo.after_cons, StableHlo.after_nil]
  after_results_simp
  rw [show Pipeline.withArrays (cfgs 0).spec c (V0 m c) (fun w => (dats m 0 c).arrAt w (cfgs 0).N) (Proc.devRef .tc main_call0_v12) = G from
    (Pipeline.withArrays_arr (cfgs 0).spec launch0.win.arr_inj c (V0 m c) _ 7).trans h]
  rfl

/-- The run with its result read. -/
theorem run (G : Dev nD → FVec Ideal S8192x2048 .f32) (h : ∀ c, (dats m 0 c).arrAt 7 cfg0.N = G c) :
    θ_run defs (onTc (τ := τ) (main (F := Ideal))) ⟨m, fun _ => 0, ρ⟩ (fun r => ∀ c : Dev nD,
      r.2.mem ((c.tc : Thread nD τ).loc main_v0) = shapeCast S4x2048x2048 (G c) shapeCasts_S8192x2048_S4x2048x2048) :=
  (θ_run defs _ _).mono (fun _ hr c => ((hr c).2 main_v0 (Pipeline.mem_restRefs_of main_v0 (by decide) (by decide))).trans (tail_v0 m c (G c) (h c)))
    (run_main m ρ)

end Cert.Proof.KerRun

end
-- ==== Proof.RefGather.lean ====
/- The reference's table look-ups and its search for the greatest entry of a row, read at one place. -/
module

public import proofs.«01_k».proof.Proof.RefRun
public import proofs.«01_k».proof.Proof.Spec
public import Idealize.ShloMosaic.Lib.Pointwise
public import Idealize.ShloMosaic.Lib.Routing.Ops
public import Idealize.ShloMosaic.PureOps.Ideal.Laws

@[expose] public section

noncomputable section

namespace Cert.Proof.RefGather

open Cert.ReferenceIdeal Cert.ReferenceIdeal.Gen Cert.ReferenceIdeal.Value Idealize.ShloMosaic Idealize.SL.Sem Cert.Proof.Math

/-! ## The greatest entry of a row -/

/-- The argmax step keeps its left operand where that comes first. -/
theorem red_left (a b : EReal × BitVec 32) (h : Before a b) : reducer_argmax_f32_i32 (F := Ideal) a b = a := by
  obtain ⟨a1, a2⟩ := a
  obtain ⟨b1, b2⟩ := b
  rcases h with h | ⟨h1, h2⟩
  · have h : b1 < a1 := h
    simp [reducer_argmax_f32_i32, Ideal.cmpf_def, Ideal.cmp, h, Scalar.select, IntOp.ori, IntOp.andi]
    intro hc
    have one_or : ∀ w : BitVec 1, 1#1 ||| w = 1#1 := by decide
    exact absurd (one_or _) hc
  · have h1 : a1 = b1 := h1
    subst h1
    have h2 : a2.toInt ≤ b2.toInt := h2
    rcases h2.lt_or_eq with h3 | h3
    · have : a2.slt b2 = true := by rw [BitVec.slt]; exact decide_eq_true h3
      simp [reducer_argmax_f32_i32, Ideal.cmpf_def, Ideal.cmp, Scalar.select, IntOp.ori, IntOp.andi, IntOp.cmpi, this]
    · have h4 := BitVec.eq_of_toInt_eq h3
      subst h4
      simp [reducer_argmax_f32_i32, Ideal.cmpf_def, Ideal.cmp, Scalar.select, IntOp.ori, IntOp.andi, IntOp.cmpi]

/-- The argmax step keeps its right operand where that comes first. -/
theorem red_right (a b : EReal × BitVec 32) (h : Before b a) : reducer_argmax_f32_i32 (F := Ideal) a b = b := by
  obtain ⟨a1, a2⟩ := a
  obtain ⟨b1, b2⟩ := b
  rcases h with h | ⟨h1, h2⟩
  · have h : a1 < b1 := h
    simp [reducer_argmax_f32_i32, Ideal.cmpf_def, Ideal.cmp, h, h.ne, h.le, not_lt.mpr h.le, Scalar.select, IntOp.ori, IntOp.andi]
  · have h1 : b1 = a1 := h1
    subst h1
    have h2 : b2.toInt ≤ a2.toInt := h2
    have : a2.slt b2 = false := by rw [BitVec.slt]; exact decide_eq_false (not_lt.mpr h2)
    simp [reducer_argmax_f32_i32, Ideal.cmpf_def, Ideal.cmp, Scalar.select, IntOp.ori, IntOp.andi, IntOp.cmpi, this]

/-- An index of the scores by its coordinates. -/
theorem eq_pair (i : S8192x8.Idx) : ∃ (a : Fin 8192) (b : Fin 8), i = ix2 a b :=
  ⟨i 0, i 1, by funext a; match a with | ⟨0, _⟩ => rfl | ⟨1, _⟩ => rfl⟩

/-- The search of row `n` finds the first place of the greatest score. -/
theorem argmax_at (v : FVec Ideal S8192x8 .f32) (n : Fin 8192) (f : Fin 8 → ℝ) (hf : ∀ c, v (ix2 n c) = ((f c : ℝ) : EReal))
    (i : Fin 8) (hi : IsAmax f i) :
    (Host.argReduce (reducer_argmax_f32_i32 (F := Ideal)) v (iotaInDim S8192x8 32 1) (constant S_ .f32 0xFF800000#32) (constantI S_ 32 0#32)
      reducesTo_S8192x8_S8192_d1 h_S_ (ix1 n)).2 = BitVec.ofNat 32 i.val := by
  rw [Ideal.argReduce_eq_reduce2, Host.reduce2_eq_foldl_fiber]
  have hit : ∀ c : Fin 8, (iotaInDim S8192x8 32 1 : IVec S8192x8 32) (ix2 n c) = BitVec.ofNat 32 c.val := fun c => rfl
  have hb : ∀ c : Fin 8, Before (((f i : ℝ) : EReal), BitVec.ofNat 32 i.val) (((f c : ℝ) : EReal), BitVec.ofNat 32 c.val) := fun c => by
    rcases (hi.1 c).lt_or_eq with h | h
    · exact Or.inl (EReal.coe_lt_coe_iff.mpr h)
    · refine Or.inr ⟨by rw [h], ?_⟩
      show (BitVec.ofNat 32 i.val).toInt ≤ (BitVec.ofNat 32 c.val).toInt
      rw [toInt_ofNat (by omega), toInt_ofNat (by omega)]
      have : ¬ c < i := fun hc => (hi.2 c hc).ne h
      rw [Fin.lt_def] at this
      omega
  have hp := foldl_pick (reducer_argmax_f32_i32 (F := Ideal)) red_left red_right (((f i : ℝ) : EReal), BitVec.ofNat 32 i.val)
    (Host.argReduceFiber v (iotaInDim S8192x8 32 1 : IVec S8192x8 32) reducesTo_S8192x8_S8192_d1 (ix1 n))
    ((constant (F := Ideal) S_ .f32 0xFF800000#32 : FVec Ideal S_ .f32) (Shape.Idx.first h_S_), (constantI S_ 32 0#32 : IVec S_ 32) (Shape.Idx.first h_S_)) ?_ ?_ ?_
  · exact congrArg Prod.snd hp
  · intro q hq
    unfold Host.argReduceFiber at hq
    obtain ⟨k, hk, rfl⟩ := List.mem_map.mp hq
    have hk := of_decide_eq_true (List.mem_filter.mp hk).2
    generalize S8192x8.rowMajor.symm k = j at hk
    obtain ⟨a, b, rfl⟩ := eq_pair j
    have ha : a = n := Fin.ext (congrArg Fin.val (congrFun hk 0))
    subst ha
    show Before _ (v (ix2 a b), _)
    rw [hf, hit]
    exact hb b
  · refine Or.inl ?_
    show Ideal.ofBits .f32 0xFF800000#32 < _
    rw [show (0xFF800000#32 : BitVec 32) = 4286578688#32 from rfl, c_bot]
    exact EReal.bot_lt_coe _
  · refine Or.inl ?_
    unfold Host.argReduceFiber
    refine List.mem_map.mpr ⟨S8192x8.rowMajor (ix2 n i), List.mem_filter.mpr ⟨List.mem_finRange _, decide_eq_true ?_⟩, ?_⟩
    · rw [Equiv.symm_apply_apply]
      funext b; match b with | ⟨0, _⟩ => rfl
    · rw [Equiv.symm_apply_apply, hf, hit]

/-! ## The look-ups -/

/-- A word of a small natural, read as a start index. -/
theorem start_word {k N : ℕ} (hk : k < N) (hN : N < 2 ^ 31) : min (BitVec.ofNat 32 k).toInt.toNat (N - 1) = k := by
  rw [toInt_ofNat (by omega)]; omega

/-- The look-up of one cluster's eight scores. -/
theorem gather_scores (x : FVec Ideal S8192x8x8 .f32) (idx : IVec S8192x1x1 32) (n : Fin 8192) (c e : Fin 8)
    (hc : idx (ix3 n (0 : Fin 1) (0 : Fin 1)) = BitVec.ofNat 32 c.val) :
    Host.gather gather_S8192x8x8_S8192x1x1_S8192x1x8_2_1_0_0_1_2_118 x idx (ix3 n (0 : Fin 1) e) = x (ix3 n c e) := by
  unfold Host.gather
  refine congrArg x (funext fun a => Fin.ext ?_)
  show GatherDims.start _ _ idx a + GatherDims.batchCoord _ _ a + GatherDims.offCoord _ _ a = _
  have h : a = (0 : Fin 3) ∨ a = (1 : Fin 3) ∨ a = (2 : Fin 3) := by
    match a with | ⟨0, _⟩ => exact Or.inl rfl | ⟨1, _⟩ => exact Or.inr (Or.inl rfl) | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8192x8x8_S8192x1x1_S8192x1x8_2_1_0_0_1_2_118.operandBatchingDims by decide)]
    rfl
  · rw [GatherDims.batchCoord_eq_zero _ _ _ (show (1 : Fin 3) ∉ gather_S8192x8x8_S8192x1x1_S8192x1x8_2_1_0_0_1_2_118.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8192x8x8_S8192x1x1_S8192x1x8_2_1_0_0_1_2_118.startIndexMap by decide)]
    refine Eq.trans (congrArg (fun w : BitVec 32 => min w.toInt.toNat (8 - 1)) (a₂ := BitVec.ofNat 32 c.val) ?_) (start_word c.isLt (by norm_num))
    rw [← hc]
    refine congrArg idx (funext fun b => Fin.ext ?_)
    match b with
    | ⟨0, _⟩ => rfl
    | ⟨1, _⟩ => rfl
    | ⟨2, _⟩ => rfl
  · rw [GatherDims.batchCoord_eq_zero _ _ _ (show (2 : Fin 3) ∉ gather_S8192x8x8_S8192x1x1_S8192x1x8_2_1_0_0_1_2_118.operandBatchingDims by decide)]
    unfold GatherDims.start
    rw [dif_neg (show (2 : Fin 3) ∉ gather_S8192x8x8_S8192x1x1_S8192x1x8_2_1_0_0_1_2_118.startIndexMap by decide)]
    simp only [Nat.zero_add, Nat.add_zero]
    rfl

/-- The look-up of one cell's coefficients. -/
theorem gather_cell (x : FVec Ideal S64x16x16x3 .f32) (idx : IVec S8192x3 32) (n : Fin 8192) (t : Fin 64) (a b : Fin 16) (e : Fin 3)
    (ht : idx (ix2 n (0 : Fin 3)) = BitVec.ofNat 32 t.val) (ha : idx (ix2 n (1 : Fin 3)) = BitVec.ofNat 32 a.val)
    (hb : idx (ix2 n (2 : Fin 3)) = BitVec.ofNat 32 b.val) :
    Host.gather gather_S64x16x16x3_S8192x3_S8192x3_1_012_n_n_012_1_1113 x idx (ix2 n e) = x (ix4 t a b e) := by
  unfold Host.gather
  refine congrArg x (funext fun k => Fin.ext ?_)
  show GatherDims.start _ _ idx k + GatherDims.batchCoord _ _ k + GatherDims.offCoord _ _ k = _
  rw [GatherDims.batchCoord_eq_zero _ _ _ List.not_mem_nil]
  have h : k = (0 : Fin 4) ∨ k = (1 : Fin 4) ∨ k = (2 : Fin 4) ∨ k = (3 : Fin 4) := by
    match k with | ⟨0, _⟩ => exact Or.inl rfl | ⟨1, _⟩ => exact Or.inr (Or.inl rfl) | ⟨2, _⟩ => exact Or.inr (Or.inr (Or.inl rfl)) | ⟨3, _⟩ => exact Or.inr (Or.inr (Or.inr rfl))
  rcases h with rfl | rfl | rfl | rfl
  · rw [GatherDims.offCoord_eq_zero _ _ _ (show (0 : Fin 4) ∉ gather_S64x16x16x3_S8192x3_S8192x3_1_012_n_n_012_1_1113.sKept by decide)]
    simp only [Nat.add_zero]
    unfold GatherDims.start
    rw [dif_pos (show (0 : Fin 4) ∈ gather_S64x16x16x3_S8192x3_S8192x3_1_012_n_n_012_1_1113.startIndexMap by decide)]
    refine Eq.trans (congrArg (fun w : BitVec 32 => min w.toInt.toNat (64 - 1)) (a₂ := BitVec.ofNat 32 t.val) ?_) (start_word t.isLt (by norm_num))
    rw [← ht]
    refine congrArg idx (funext fun b => Fin.ext ?_)
    match b with
    | ⟨0, _⟩ => rfl
    | ⟨1, _⟩ => rfl
  · rw [GatherDims.offCoord_eq_zero _ _ _ (show (1 : Fin 4) ∉ gather_S64x16x16x3_S8192x3_S8192x3_1_012_n_n_012_1_1113.sKept by decide)]
    simp only [Nat.add_zero]
    unfold GatherDims.start
    rw [dif_pos (show (1 : Fin 4) ∈ gather_S64x16x16x3_S8192x3_S8192x3_1_012_n_n_012_1_1113.startIndexMap by decide)]
    refine Eq.trans (congrArg (fun w : BitVec 32 => min w.toInt.toNat (16 - 1)) (a₂ := BitVec.ofNat 32 a.val) ?_) (start_word a.isLt (by norm_num))
    rw [← ha]
    refine congrArg idx (funext fun b => Fin.ext ?_)
    match b with
    | ⟨0, _⟩ => rfl
    | ⟨1, _⟩ => rfl
  · rw [GatherDims.offCoord_eq_zero _ _ _ (show (2 : Fin 4) ∉ gather_S64x16x16x3_S8192x3_S8192x3_1_012_n_n_012_1_1113.sKept by decide)]
    simp only [Nat.add_zero]
    unfold GatherDims.start
    rw [dif_pos (show (2 : Fin 4) ∈ gather_S64x16x16x3_S8192x3_S8192x3_1_012_n_n_012_1_1113.startIndexMap by decide)]
    refine Eq.trans (congrArg (fun w : BitVec 32 => min w.toInt.toNat (16 - 1)) (a₂ := BitVec.ofNat 32 b.val) ?_) (start_word b.isLt (by norm_num))
    rw [← hb]
    refine congrArg idx (funext fun b => Fin.ext ?_)
    match b with
    | ⟨0, _⟩ => rfl
    | ⟨1, _⟩ => rfl
  · unfold GatherDims.start
    rw [dif_neg (show (3 : Fin 4) ∉ gather_S64x16x16x3_S8192x3_S8192x3_1_012_n_n_012_1_1113.startIndexMap by decide)]
    simp only [Nat.zero_add]
    rfl

/-- The look-up in a table that holds one value throughout. -/
theorem gather_const {s si t : Shape} {w : ℕ} {α : Type} (d : GatherDims s si t) (x : s.Idx → α) (idx : IVec si w) (v : α) (hx : ∀ i, x i = v) (j : t.Idx) :
    Host.gather d x idx j = v := hx _

/-- The look-up of a tile's direction. -/
theorem gather_dir (x : FVec Ideal S64x2048 .f32) (idx : IVec S8192x1 32) (n : Fin 8192) (t : Fin 64) (j : Fin 2048)
    (ht : idx (ix2 n (0 : Fin 1)) = BitVec.ofNat 32 t.val) :
    Host.gather gather_S64x2048_S8192x1_S8192x2048_1_0_n_n_0_1_12048 x idx (ix2 n j) = x (ix2 t j) :=
  Routing.gather_row _ rfl rfl rfl rfl rfl x idx n j t ht (by norm_num)

end Cert.Proof.RefGather

end
-- ==== Proof.RefRow.lean ====
/- The reference's result, read at one place of one row. -/
module

public import proofs.«01_k».proof.Proof.RefGather

@[expose] public section

set_option maxRecDepth 16384

noncomputable section

namespace Cert.Proof.RefRow

open Cert.ReferenceIdeal Cert.ReferenceIdeal.Gen Cert.ReferenceIdeal.Value Idealize.ShloMosaic Idealize.ShloMosaic.TcCoe Idealize.SL.Sem Idealize.ShloMosaic.StableHlo Cert.Proof.Math Cert.Proof.RefGather

variable (V0 : Valuation τ sig (Elt Ideal))

/-- Argument 0 of the reference. -/
abbrev A0 : FVec Ideal S4x2048x2048 .f32 := V0 (Proc.devRef .tc main_arg0)
/-- Argument 1 of the reference. -/
abbrev A1 : FVec Ideal S2048 .f32 := V0 (Proc.devRef .tc main_arg1)
/-- Argument 2 of the reference. -/
abbrev A2 : FVec Ideal S2048 .f32 := V0 (Proc.devRef .tc main_arg2)
/-- Argument 3 of the reference. -/
abbrev A3 : FVec Ideal S2048x512 .f32 := V0 (Proc.devRef .tc main_arg3)
/-- Argument 4 of the reference. -/
abbrev A4 : FVec Ideal S512 .f32 := V0 (Proc.devRef .tc main_arg4)
/-- Argument 5 of the reference. -/
abbrev A5 : FVec Ideal S512x2 .f32 := V0 (Proc.devRef .tc main_arg5)
/-- Argument 6 of the reference. -/
abbrev A6 : FVec Ideal S2 .f32 := V0 (Proc.devRef .tc main_arg6)
/-- Argument 7 of the reference. -/
abbrev A7 : FVec Ideal S64x2048 .f32 := V0 (Proc.devRef .tc main_arg7)
/-- Argument 8 of the reference. -/
abbrev A8 : FVec Ideal S64x16x16x3 .f32 := V0 (Proc.devRef .tc main_arg8)
/-- Argument 9 of the reference. -/
abbrev A9 : FVec Ideal S64 .f32 := V0 (Proc.devRef .tc main_arg9)
/-- Argument 10 of the reference. -/
abbrev A10 : FVec Ideal S1 .f32 := V0 (Proc.devRef .tc main_arg10)

/-- The outer coordinate of a row. -/
abbrev hi (n : Fin 8192) : Fin 4 := ⟨n.val / 2048, by omega⟩
/-- The inner coordinate of a row. -/
abbrev lo (n : Fin 8192) : Fin 2048 := ⟨n.val % 2048, by omega⟩

/-- A row's mean. -/
theorem v3_at (b : Fin 4) (s : Fin 2048) (X : Fin 2048 → ℝ) (hx : ∀ k, A0 V0 (ix3 b s k) = ((X k : ℝ) : EReal)) :
    (show FVec Ideal S4x2048x1 .f32 from res_main_v3 (F := Ideal) V0) (ix3 b s (0 : Fin 1)) = ((mean X : ℝ) : EReal) := by
  pointwise [res_main_v3]
  rw [c_2048, Finset.sum_congr rfl fun x _ => hx x, ← coe_sum, div_real _ _ (by norm_num)]
  rfl

/-- A row's deviation from its mean. -/
theorem v5_at (b : Fin 4) (s : Fin 2048) (X : Fin 2048 → ℝ) (hx : ∀ k, A0 V0 (ix3 b s k) = ((X k : ℝ) : EReal)) (k : Fin 2048) :
    (show FVec Ideal S4x2048x2048 .f32 from res_main_v5 (F := Ideal) V0) (ix3 b s k) = ((X k - mean X : ℝ) : EReal) := by
  have h3 := v3_at V0 b s X hx
  pointwise [res_main_v5]
  exact (congrArg₂ (fun a b : EReal => a - b) (hx k) h3).trans (EReal.coe_sub _ _).symm

/-- The normalization on numbers. -/
theorem norm_val (X : Fin 2048 → ℝ) (k : Fin 2048) (x m g b : EReal) (d : Fin 2048 → EReal) (hx : x = ((X k : ℝ) : EReal)) (hm : m = ((mean X : ℝ) : EReal))
    (hd : ∀ k, d k = ((X k - mean X : ℝ) : EReal)) (hg : g = 1) (hb : b = 0) :
    Ideal.div (x - m) (Ideal.sqrt (Ideal.div (∑ k, d k * d k) (Ideal.ofBits .f32 1157627904#32) + Ideal.ofBits .f32 925353388#32)) * g + b
      = ((xn X k : ℝ) : EReal) := by
  have hs : ∑ k, d k * d k = ((∑ k, (X k - mean X) * (X k - mean X) : ℝ) : EReal) := by
    rw [coe_sum]; exact Finset.sum_congr rfl fun k _ => by rw [hd, ← EReal.coe_mul]
  rw [hg, hb, mul_one, add_zero, hs, c_2048, c_eps, div_real _ _ (by norm_num), ← EReal.coe_add, hx, hm, ← EReal.coe_sub]
  have hq : Ideal.sqrt (((∑ k, (X k - mean X) * (X k - mean X)) / 2048 + eps : ℝ) : EReal) = ((sd X : ℝ) : EReal) :=
    if_neg (not_lt.mpr (add_nonneg (var_nonneg X) eps_pos.le))
  rw [hq, div_real _ _ (sd_pos X).ne']
  rfl

/-- A row, normalised. -/
theorem v24_at (n : Fin 8192) (X : Fin 2048 → ℝ) (hx : ∀ k, A0 V0 (ix3 (hi n) (lo n) k) = ((X k : ℝ) : EReal))
    (hg : ∀ k, A1 V0 (ix1 k) = 1) (hb : ∀ k, A2 V0 (ix1 k) = 0) (k : Fin 2048) :
    (show FVec Ideal S8192x2048 .f32 from res_main_v24 (F := Ideal) V0) (ix2 n k) = ((xn X k : ℝ) : EReal) := by
  have h3 := v3_at V0 _ _ X hx
  have h5 := v5_at V0 _ _ X hx
  pointwise [res_main_v24]
  exact norm_val X k _ _ _ _ _ (hx k) h3 h5 (hg k) (hb k)

/-- A word that counts: adding the table's length to negative words leaves it. -/
theorem wrap_eq {k : ℕ} (hk : k < 2 ^ 31) (N : BitVec 32) :
    Scalar.select (IntOp.cmpi .slt (BitVec.ofNat 32 k) 0#32) (IntOp.addi (BitVec.ofNat 32 k) N) (BitVec.ofNat 32 k) = BitVec.ofNat 32 k := by
  have : (BitVec.ofNat 32 k).slt 0#32 = false := by
    rw [BitVec.slt]
    refine decide_eq_false (not_lt.mpr ?_)
    rw [toInt_ofNat hk]
    exact Int.natCast_nonneg k
  simp [IntOp.cmpi, this, Scalar.select]

/-- A conjunction of true words. -/
theorem fold_true {ι : Type} (s : Finset ι) (f : ι → BitVec 1) (h : ∀ x ∈ s, f x = 1#1) : Finset.fold IntOp.andi 1#1 f s = 1#1 := by
  classical
  induction s using Finset.induction_on with
  | empty => rfl
  | insert a s ha ih =>
    rw [Finset.fold_insert ha, h a (Finset.mem_insert_self a s), ih fun x hx => h x (Finset.mem_insert_of_mem hx)]
    rfl

/-- A cluster's number passes the range test of the gather. -/
theorem inside : ∀ c : Fin 8, IntOp.andi
    (IntOp.cmpi .sge (Scalar.select (IntOp.cmpi .slt (BitVec.ofNat 32 c.val) 0#32) (IntOp.addi (BitVec.ofNat 32 c.val) 8#32) (BitVec.ofNat 32 c.val)) 0#32)
    (IntOp.cmpi .sle (Scalar.select (IntOp.cmpi .slt (BitVec.ofNat 32 c.val) 0#32) (IntOp.addi (BitVec.ofNat 32 c.val) 8#32) (BitVec.ofNat 32 c.val)) 7#32)
      = 1#1 := by decide

/-- The hyperbolic tangent is a real. -/
theorem tanh_real (x : EReal) : ∃ r : ℝ, Ideal.tanh x = ((r : ℝ) : EReal) := by
  induction x using EReal.rec with
  | bot => exact ⟨-1, by show (-1 : EReal) = _; simp⟩
  | top => exact ⟨1, by show (1 : EReal) = _; simp⟩
  | coe r => exact ⟨Real.tanh r, rfl⟩

/-- The grid index on numbers. -/
theorem grid_val (a : EReal) (r : ℝ) (ha : a = ((r : ℝ) : EReal)) :
    Ideal.div (a + 1) (Ideal.ofBits .f32 1073741824#32) * Ideal.ofBits .f32 1098907648#32 = fa a := by
  unfold fa
  rw [ha, c_2, c_16, show ((1 : EReal)) = ((1 : ℝ) : EReal) from rfl, ← EReal.coe_add, div_real _ _ (by norm_num), ← EReal.coe_mul, ← EReal.coe_mul]
  congr 1; ring

/-- The offset on numbers. -/
theorem frac_val (a : EReal) (r : ℝ) (ha : a = ((r : ℝ) : EReal)) (w : BitVec 32) :
    Ideal.div (a + 1 - (((w.toInt : ℝ)) : EReal) * Ideal.ofBits .f32 1040187392#32) (Ideal.ofBits .f32 1040187392#32) = fa a - ((w.toInt : ℝ) : EReal) := by
  unfold fa
  rw [ha, c_eighth, show ((1 : EReal)) = ((1 : ℝ) : EReal) from rfl, ← EReal.coe_add, ← EReal.coe_mul, ← EReal.coe_sub, div_real _ _ (by norm_num), ← EReal.coe_mul, ← EReal.coe_sub]
  congr 1; ring

/-- The ternary value, carried past the coefficient. -/
theorem tern_val (z : EReal) (r : ℝ) (hz : z = ((r : ℝ) : EReal)) :
    z + (Scalar.select (FloatOps.cmpf (F := Ideal) (φ := .f32) .ogt z (Ideal.ofBits .f32 1050253722#32)) (Ideal.ofBits .f32 1065353216#32)
      (Scalar.select (FloatOps.cmpf (F := Ideal) (φ := .f32) .olt z (Ideal.ofBits .f32 3197737370#32)) (Ideal.ofBits .f32 3212836864#32) (Ideal.ofBits .f32 0#32)) - z)
      = tern z := by
  have h1 : Ideal.ofBits .f32 1065353216#32 = ((1 : ℝ) : EReal) := by
    have h := IdealRules.sign_bit.ideal_onePat .f32
    exact h
  have h0 : Ideal.ofBits .f32 0#32 = ((0 : ℝ) : EReal) := by simp [Ideal.ofBits, Ideal.ieee]
  have key : ∀ q : ℝ, ((r : ℝ) : EReal) + (((q : ℝ) : EReal) - ((r : ℝ) : EReal)) = ((q : ℝ) : EReal) := fun q => by
    rw [← EReal.coe_sub, ← EReal.coe_add]; congr 1; ring
  unfold tern
  rw [h1, h0, c_neg1, Ideal.cmpf_def, Ideal.cmpf_def]
  simp only [Scalar.select, Ideal.cmp]
  by_cases e1 : Ideal.ofBits .f32 1050253722#32 < z
  · simp only [e1, decide_true, if_true]; rw [hz]; exact key 1
  · by_cases e2 : z < Ideal.ofBits .f32 3197737370#32
    · simp only [e1, e2, decide_true, decide_false, if_true, if_false]; rw [hz]; exact key (-1)
    · simp only [e1, e2, decide_false, if_false]; rw [hz]; exact key 0

/-! ## The tile -/

/-- The directions by tile and channel. -/
abbrev D (t : Fin 64) (k : Fin 2048) : EReal := A7 V0 (ix2 t k)

section Row

variable (n : Fin 8192) (X : Fin 2048 → ℝ)
  (h24 : ∀ k, (show FVec Ideal S8192x2048 .f32 from res_main_v24 (F := Ideal) V0) (ix2 n k) = ((xn X k : ℝ) : EReal))

include h24

/-- A cluster's score: the sign of its tiles' summed signs against the row. -/
theorem v32_at (c : Fin 8) :
    (show FVec Ideal S8192x8 .f32 from res_main_v32 (F := Ideal) V0) (ix2 n c) = ((lin X (clSg (D V0) c) : ℝ) : EReal) := by
  pointwise [res_main_v32, res_main_v25]
  unfold lin
  rw [coe_sum]
  refine Finset.sum_congr rfl fun k _ => ?_
  rw [EReal.coe_mul]
  refine congrArg₂ (fun a b : EReal => a * b) (h24 k) ?_
  rw [c_8, Finset.sum_congr rfl fun i _ => sign_eq _, ← coe_sum, div_real _ _ (by norm_num), sign_eq, sg_div _ _ (by norm_num)]
  refine congrArg (fun r : ℝ => ((sg ((r : ℝ) : EReal) : ℝ) : EReal)) (Finset.sum_congr rfl fun i _ => ?_)
  have e : tl c i = ⟨c.val * 8 + i.val, by omega⟩ := Fin.ext (by simp only [tl]; omega)
  rw [e]
  rfl

/-- The cluster the reference chooses. -/
theorem v33_at (c : Fin 8) (hc : IsAmax (fun c => lin X (clSg (D V0) c)) c) :
    (show IVec S8192 32 from res_main_v33 (F := Ideal) V0) (ix1 n) = BitVec.ofNat 32 c.val :=
  argmax_at _ n (fun c => lin X (clSg (D V0) c)) (v32_at V0 n X h24) c hc

/-- The scores of the chosen cluster's tiles. -/
theorem v39_at (c : Fin 8) (hc : IsAmax (fun c => lin X (clSg (D V0) c)) c) (i : Fin 8) :
    (show FVec Ideal S8192x8 .f32 from res_main_v39 (F := Ideal) V0) (ix2 n i) = ((lin X (tileSg (D V0) (tl c i)) : ℝ) : EReal) := by
  have h33 := v33_at V0 n X h24 c hc
  have h33 : (res_main_v33 (F := Ideal) V0 : IVec S8192 32) (ix1 n) = BitVec.ofNat 32 c.val := h33
  pointwise [res_main_v39, res_main_v25, res_main_call1_v4, res_main_v37]
  rw [fold_true]
  · rw [gather_scores _ _ n c i]
    · show (_ : EReal) = _
      refine Eq.trans (b := ∑ k, (show FVec Ideal S8192x2048 .f32 from res_main_v24 (F := Ideal) V0) (ix2 n k) * Ideal.sign (A7 V0 (ix2 ⟨c.val * 8 + i.val, by omega⟩ k))) ?_ ?_
      · show Scalar.select 1#1 _ _ = _
        pointwise
      · unfold lin
        rw [coe_sum]
        refine Finset.sum_congr rfl fun k _ => ?_
        rw [h24, EReal.coe_mul, sign_eq]
        have e : tl c i = ⟨c.val * 8 + i.val, by omega⟩ := Fin.ext (by simp only [tl]; omega)
        rw [e]
        rfl
    · pointwise
      rw [h33]
      exact wrap_eq (by omega) _
  · intro x hx
    have hx0 : x 0 = n := Fin.ext (congrArg Fin.val (congrFun (Finset.mem_filter.mp hx).2 0))
    have e : (res_main_v33 (F := Ideal) V0 : IVec S8192 32) (ix1 (x 0)) = BitVec.ofNat 32 c.val := by rw [hx0]; exact h33
    rw [e]
    exact inside c

/-- The tile the reference chooses. -/
theorem v43_at (c l : Fin 8) (h : Routed X (D V0) c l) :
    (show IVec S8192 32 from res_main_v43 (F := Ideal) V0) (ix1 n) = BitVec.ofNat 32 (tl c l).val := by
  have h33 : (res_main_v33 (F := Ideal) V0 : IVec S8192 32) (ix1 n) = BitVec.ofNat 32 c.val := v33_at V0 n X h24 c h.1
  have h42 := argmax_at _ n (fun l => lin X (tileSg (D V0) (tl c l))) (v39_at V0 n X h24 c h.1) l h.2
  have words : ∀ c l : Fin 8, IntOp.addi (IntOp.muli (BitVec.ofNat 32 c.val) 8#32) (BitVec.ofNat 32 l.val) = BitVec.ofNat 32 (tl c l).val := by decide
  rw [← words, ← h33, ← h42]
  rfl

/-! ## The activation -/

/-- The two compressed coordinates. -/
theorem v59_at (W : Fin 2048 → Fin 512 → ℝ) (hW : ∀ k j, A3 V0 (ix2 k j) = ((W k j : ℝ) : EReal)) (h1 : ∀ j, A4 V0 (ix1 j) = 0) (h2 : ∀ e, A6 V0 (ix1 e) = 0)
    (e : Fin 2) :
    (show FVec Ideal S8192x2 .f32 from res_main_v59 (F := Ideal) V0) (ix2 n e) = ab X W fun j => A5 V0 (ix2 j e) := by
  have hH : ∀ j : Fin 512, (show EReal from ∑ k, (show FVec Ideal S8192x2048 .f32 from res_main_v24 (F := Ideal) V0) (ix2 n k) * A3 V0 (ix2 k j) + A4 V0 (ix1 j))
      = ((lin X fun k => W k j : ℝ) : EReal) := fun j => by
    show _ + _ = _
    rw [h1, add_zero]
    unfold lin
    rw [coe_sum]
    refine Finset.sum_congr rfl fun k _ => ?_
    rw [h24, hW, EReal.coe_mul]
  pointwise [res_main_v59, res_main_v47]
  unfold ab
  refine congrArg Ideal.tanh ((congrArg₂ (fun a b : EReal => a + b) (Finset.sum_congr rfl fun j _ => ?_) (h2 e)).trans (add_zero _))
  refine congrArg₂ (fun a b : EReal => a * b) ?_ rfl
  refine congrArg₂ (fun a b : EReal => a * b) (congrArg (fun a : EReal => Ideal.ofBits .f32 1056964608#32 * a) (hH j)) ?_
  refine (congrArg (fun a : EReal => Ideal.erfc (-a * Ideal.ofBits .f32 1060439283#32)) (hH j)).trans ?_
  rw [EReal.neg_mul, Ideal.erfc_neg]

omit h24 in
/-- The cell of the first coordinate. -/
theorem v71_at (a : EReal) (r : ℝ) (ha : a = ((r : ℝ) : EReal)) (h59 : (show FVec Ideal S8192x2 .f32 from res_main_v59 (F := Ideal) V0) (ix2 n (0 : Fin 2)) = a) :
    (show IVec S8192 32 from res_main_v71 (F := Ideal) V0) (ix1 n) = ia a := by
  have h59 : (res_main_v59 (F := Ideal) V0 : FVec Ideal S8192x2 .f32) (ix2 n (0 : Fin 2)) = a := h59
  pointwise [res_main_v71, res_main_v61]
  rw [h59, grid_val a r ha]
  rfl

omit h24 in
/-- The cell of the second coordinate. -/
theorem v79_at (a : EReal) (r : ℝ) (ha : a = ((r : ℝ) : EReal)) (h59 : (show FVec Ideal S8192x2 .f32 from res_main_v59 (F := Ideal) V0) (ix2 n (1 : Fin 2)) = a) :
    (show IVec S8192 32 from res_main_v79 (F := Ideal) V0) (ix1 n) = ia a := by
  have h59 : (res_main_v59 (F := Ideal) V0 : FVec Ideal S8192x2 .f32) (ix2 n (1 : Fin 2)) = a := h59
  pointwise [res_main_v79, res_main_v63]
  rw [h59, grid_val a r ha]
  rfl

/-! ## The coefficients -/

omit h24 in
/-- The ternary coefficients the reference reads from the table. -/
theorem v108_at (t : Fin 64) (a b : Fin 16) (e : Fin 3) (h8 : ∃ r : ℝ, A8 V0 (ix4 t a b e) = ((r : ℝ) : EReal))
    (h43 : (show IVec S8192 32 from res_main_v43 (F := Ideal) V0) (ix1 n) = BitVec.ofNat 32 t.val)
    (h71 : (show IVec S8192 32 from res_main_v71 (F := Ideal) V0) (ix1 n) = BitVec.ofNat 32 a.val)
    (h79 : (show IVec S8192 32 from res_main_v79 (F := Ideal) V0) (ix1 n) = BitVec.ofNat 32 b.val) :
    (show FVec Ideal S8192x3 .f32 from res_main_v108 (F := Ideal) V0) (ix2 n e) = tern (A8 V0 (ix4 t a b e)) := by
  have h43 : (res_main_v43 (F := Ideal) V0 : IVec S8192 32) (ix1 n) = BitVec.ofNat 32 t.val := h43
  have h71 : (res_main_v71 (F := Ideal) V0 : IVec S8192 32) (ix1 n) = BitVec.ofNat 32 a.val := h71
  have h79 : (res_main_v79 (F := Ideal) V0 : IVec S8192 32) (ix1 n) = BitVec.ofNat 32 b.val := h79
  unfold res_main_v108
  refine (gather_cell _ _ n t a b e ?_ ?_ ?_).trans ?_
  · pointwise
    rw [h43]
    exact wrap_eq (by omega) _
  · pointwise
    rw [h71]
    exact wrap_eq (by omega) _
  · pointwise
    rw [h79]
    exact wrap_eq (by omega) _
  · obtain ⟨r, hr⟩ := h8
    pointwise
    exact tern_val _ r hr

end Row

/-! ## The result -/

/-- The reference's result as a term of its arguments. -/
abbrev out : FVec Ideal S4x2048x2048 .f32 := val4 (F := Ideal) V0 (Proc.devRef .tc main_v157)

/-- The result's row, whose tile and coordinates are known. -/
theorem out_at (n : Fin 8192) (X : Fin 2048 → ℝ) (hx : ∀ k, A0 V0 (ix3 (hi n) (lo n) k) = ((X k : ℝ) : EReal))
    (hg : ∀ k, A1 V0 (ix1 k) = 1) (hb : ∀ k, A2 V0 (ix1 k) = 0)
    (W : Fin 2048 → Fin 512 → ℝ) (hW : ∀ k j, A3 V0 (ix2 k j) = ((W k j : ℝ) : EReal)) (h1 : ∀ j, A4 V0 (ix1 j) = 0) (h2 : ∀ e, A6 V0 (ix1 e) = 0)
    (h8 : ∀ t a b e, ∃ r : ℝ, A8 V0 (ix4 t a b e) = ((r : ℝ) : EReal)) (h9 : ∀ i, A9 V0 i = 1)
    (c l : Fin 8) (h : Routed X (D V0) c l) (j : Fin 2048) :
    out V0 (ix3 (hi n) (lo n) j) = A0 V0 (ix3 (hi n) (lo n) j) + A7 V0 (ix2 (tl c l) j)
      * (spl (fun a b e => A8 V0 (ix4 (tl c l) a b e)) (ab X W fun j => A5 V0 (ix2 j (0 : Fin 2))) (ab X W fun j => A5 V0 (ix2 j (1 : Fin 2))) * A10 V0 (ix1 (0 : Fin 1))) := by
  have h24 := v24_at V0 n X hx hg hb
  have h43 : (res_main_v43 (F := Ideal) V0 : IVec S8192 32) (ix1 n) = BitVec.ofNat 32 (tl c l).val := v43_at V0 n X h24 c l h
  have ha : (res_main_v59 (F := Ideal) V0 : FVec Ideal S8192x2 .f32) (ix2 n (0 : Fin 2)) = _ := v59_at V0 n X h24 W hW h1 h2 0
  have hb : (res_main_v59 (F := Ideal) V0 : FVec Ideal S8192x2 .f32) (ix2 n (1 : Fin 2)) = _ := v59_at V0 n X h24 W hW h1 h2 1
  obtain ⟨ra, hra⟩ : ∃ r : ℝ, (ab X W fun j => A5 V0 (ix2 j (0 : Fin 2))) = ((r : ℝ) : EReal) := tanh_real _
  obtain ⟨rb, hrb⟩ : ∃ r : ℝ, (ab X W fun j => A5 V0 (ix2 j (1 : Fin 2))) = ((r : ℝ) : EReal) := tanh_real _
  generalize (ab X W fun j => A5 V0 (ix2 j (0 : Fin 2))) = a at *
  generalize (ab X W fun j => A5 V0 (ix2 j (1 : Fin 2))) = b at *
  have h71 : (res_main_v71 (F := Ideal) V0 : IVec S8192 32) (ix1 n) = ia a := v71_at V0 n a ra hra ha
  have h79 : (res_main_v79 (F := Ideal) V0 : IVec S8192 32) (ix1 n) = ia b := v79_at V0 n b rb hrb hb
  have h108 : ∀ e, (res_main_v108 (F := Ideal) V0 : FVec Ideal S8192x3 .f32) (ix2 n e) = tern (A8 V0 (ix4 (tl c l) (cell a) (cell b) e)) := fun e =>
    v108_at V0 n (tl c l) (cell a) (cell b) e (h8 _ _ _ _) h43 (h71.trans (ia_eq a)) (h79.trans (ia_eq b))
  have en : ∀ hn, (⟨n.val / 2048 * 2048 + n.val % 2048, hn⟩ : Fin 8192) = n := fun _ => Fin.ext (by simp only; omega)
  unfold out
  rw [val4_main_v157]
  pointwise [res_main_v61, res_main_v63]
  simp only [en]
  rw [gather_const _ _ _ (1 : EReal) h9, gather_dir _ _ n (tl c l) j, ha, hb, h71, h79, h108, h108, h108, mul_one]
  · unfold spl fr
    have fa1 := frac_val a ra hra (ia a)
    have fb1 := frac_val b rb hrb (ia b)
    refine congrArg₂ (fun u v : EReal => u + v) rfl ?_
    refine (congrArg₂ (fun u v : EReal => (tern (A8 V0 (ix4 (tl c l) (cell a) (cell b) 0)) + tern (A8 V0 (ix4 (tl c l) (cell a) (cell b) 1)) * u + tern (A8 V0 (ix4 (tl c l) (cell a) (cell b) 2)) * v)
      * A7 V0 (ix2 (tl c l) j) * A10 V0 (ix1 (0 : Fin 1))) fa1 fb1).trans ?_
    rw [mul_comm _ (A7 V0 (ix2 (tl c l) j)), mul_assoc]
  · pointwise
    rw [h43]
    exact wrap_eq (by omega) _

end Cert.Proof.RefRow

end
-- ==== Proof.Pre.lean ====
/- The precondition, read: what it says of each argument. -/
module

public import proofs.«01_k».proof.Pre_model_parameters
public import Idealize.ShloMosaic.Lib.ReduceAll
public import Idealize.ShloMosaic.Lib.Pointwise

@[expose] public section

set_option maxRecDepth 16384

noncomputable section

namespace Cert.Proof.Pre

open Cert.Pre_model_parameters Idealize.ShloMosaic

/-- The result has one index. -/
instance : Subsingleton S_.Idx := ⟨fun a b => funext fun i => i.elim0⟩

/-- The one index of the result. -/
abbrev i0 : S_.Idx := fun i => i.elim0

/-- An equality read back. -/
theorem oeq_read (x y : EReal) (h : Ideal.cmp .oeq x y = 1#1) : x = y := by
  by_contra e
  simp [Ideal.cmp, e] at h

/-- A bound on the absolute value read back: the number is real. -/
theorem olt_read (x y : EReal) (hy : y = ⊤) (h : Ideal.cmp .olt (max x (-x)) y = 1#1) : ∃ r : ℝ, x = ((r : ℝ) : EReal) := by
  subst hy
  have hl : max x (-x) < ⊤ := by
    by_contra e
    simp [Ideal.cmp, e] at h
  induction x with
  | bot => simp at hl
  | top => simp at hl
  | coe r => exact ⟨r, rfl⟩

/-- The word of one. -/
theorem w_one : Ideal.ofBits .f32 0x3F800000#32 = 1 := by
  simp [Ideal.ofBits, Ideal.ieee]
  rw [← EReal.coe_mul]
  norm_num
/-- The word of zero. -/
theorem w_zero : Ideal.ofBits .f32 0x00000000#32 = 0 := by
  simp [Ideal.ofBits, Ideal.ieee]
/-- The word of the infinity. -/
theorem w_inf : Ideal.ofBits .f32 0x7F800000#32 = ⊤ := by
  simp [Ideal.ofBits, Ideal.ieee]

/-- The shape relations the precondition's operations take. -/
theorem facts : Facts where
  bcast_S_S2048 := by decide
  reducesTo_S2048_S_d0 := by decide
  h_S_ := by decide
  bcast_S_S512 := by decide
  reducesTo_S512_S_d0 := by decide
  bcast_S_S2 := by decide
  reducesTo_S2_S_d0 := by decide
  bcast_S_S64 := by decide
  reducesTo_S64_S_d0 := by decide
  bcast_S_S4x2048x2048 := by decide
  reducesTo_S4x2048x2048_S_d0_1_2 := by decide
  bcast_S_S2048x512 := by decide
  reducesTo_S2048x512_S_d0_1 := by decide
  bcast_S_S64x16x16x3 := by decide
  reducesTo_S64x16x16x3_S_d0_1_2_3 := by decide

variable [Facts]
open Facts

/-- What the precondition says. -/
theorem read (x0 : FVec Ideal S4x2048x2048 .f32) (x1 x2 : FVec Ideal S2048 .f32) (x3 : FVec Ideal S2048x512 .f32) (x4 : FVec Ideal S512 .f32) (x5 : FVec Ideal S512x2 .f32)
    (x6 : FVec Ideal S2 .f32) (x7 : FVec Ideal S64x2048 .f32) (x8 : FVec Ideal S64x16x16x3 .f32) (x9 : FVec Ideal S64 .f32) (x10 : FVec Ideal S1 .f32)
    (h : fn (F := Ideal) x0 x1 x2 x3 x4 x5 x6 x7 x8 x9 x10 = fun _ => 1#1) :
    (∀ i, ∃ r : ℝ, x0 i = ((r : ℝ) : EReal)) ∧ (∀ i, x1 i = (1 : EReal)) ∧ (∀ i, x2 i = (0 : EReal)) ∧ (∀ i, ∃ r : ℝ, x3 i = ((r : ℝ) : EReal))
      ∧ (∀ i, x4 i = (0 : EReal)) ∧ (∀ i, x6 i = (0 : EReal)) ∧ (∀ i, ∃ r : ℝ, x8 i = ((r : ℝ) : EReal)) ∧ (∀ i, x9 i = (1 : EReal)) := by
  have h := congrFun h i0
  unfold fn fn_part1 fn_part2 at h
  obtain ⟨h, e8⟩ := IntOp.andi_eq_one.1 h
  obtain ⟨h, e3⟩ := IntOp.andi_eq_one.1 h
  obtain ⟨h, e0⟩ := IntOp.andi_eq_one.1 h
  obtain ⟨h, e9⟩ := IntOp.andi_eq_one.1 h
  obtain ⟨h, e6⟩ := IntOp.andi_eq_one.1 h
  obtain ⟨h, e4⟩ := IntOp.andi_eq_one.1 h
  obtain ⟨e1, e2⟩ := IntOp.andi_eq_one.1 h
  exact ⟨fun i => olt_read _ _ w_inf (Host.reduce_andi_all _ _ _ _ _ e0 i), fun i => (oeq_read _ _ (Host.reduce_andi_all _ _ _ _ _ e1 i)).trans w_one,
    fun i => (oeq_read _ _ (Host.reduce_andi_all _ _ _ _ _ e2 i)).trans w_zero, fun i => olt_read _ _ w_inf (Host.reduce_andi_all _ _ _ _ _ e3 i),
    fun i => (oeq_read _ _ (Host.reduce_andi_all _ _ _ _ _ e4 i)).trans w_zero, fun i => (oeq_read _ _ (Host.reduce_andi_all _ _ _ _ _ e6 i)).trans w_zero,
    fun i => olt_read _ _ w_inf (Host.reduce_andi_all _ _ _ _ _ e8 i), fun i => (oeq_read _ _ (Host.reduce_andi_all _ _ _ _ _ e9 i)).trans w_one⟩

end Cert.Proof.Pre

end
-- ==== Proof.Equal.lean ====
/- The kernel's result is the reference's, entry by entry, where the precondition holds. -/
module

public import proofs.«01_k».proof.Proof.KerRun
public import proofs.«01_k».proof.Proof.RefRow
public import proofs.«01_k».proof.Proof.Pre

@[expose] public section

set_option maxRecDepth 16384

noncomputable section

namespace Cert.Proof.Equal

open Cert.KernelIdeal Cert.KernelIdeal.Gen Idealize.ShloMosaic Idealize.ShloMosaic.TcCoe Idealize.SL.Sem Cert.Proof.Math Cert.Proof.KerRow Cert.Proof.KerBody Cert.Proof.KerValue Cert.Proof.HostIn Cert.Proof.KerRun

/-- A block of rows at an entry. -/
theorem read0 (A : FVec Ideal S8192x2048 .f32) (t : Fin cfg0.N) (r : Fin 1024) (k : Fin 2048) (hn : t.val * 1024 + r.val < 8192) :
    (show FVec Ideal S1024x2048 .f32 from ((cfg0.win 0).blk t).view.read (Elt Ideal) A) (ix2 r k) = A (ix2 (⟨t.val * 1024 + r.val, hn⟩ : Fin 8192) k) := by
  blk_ext [idx t]

variable (m : (ℓ : Loc nD τ sig) → Buf (Elt Ideal) ℓ) (c : Dev nD)
variable (V0 : Valuation Cert.ReferenceIdeal.τ Cert.ReferenceIdeal.sig (Elt Ideal))

/-- The reference's result laid out as rows. -/
abbrev rows : FVec Ideal S8192x2048 .f32 := fun i => RefRow.out V0 (ix3 (RefRow.hi (i 0)) (RefRow.lo (i 0)) (i 1))

section Args

variable (e0 : RefRow.A0 V0 = m ((c : Thread nD τ).loc main_arg0)) (e3 : RefRow.A3 V0 = m ((c : Thread nD τ).loc main_arg3))
  (e5 : RefRow.A5 V0 = m ((c : Thread nD τ).loc main_arg5)) (e7 : RefRow.A7 V0 = m ((c : Thread nD τ).loc main_arg7))
  (e8 : RefRow.A8 V0 = m ((c : Thread nD τ).loc main_arg8)) (e10 : RefRow.A10 V0 = m ((c : Thread nD τ).loc main_arg10))
  (p0 : ∀ i, ∃ r : ℝ, RefRow.A0 V0 i = ((r : ℝ) : EReal)) (p1 : ∀ i, RefRow.A1 V0 i = (1 : EReal)) (p2 : ∀ i, RefRow.A2 V0 i = (0 : EReal))
  (p3 : ∀ i, ∃ r : ℝ, RefRow.A3 V0 i = ((r : ℝ) : EReal)) (p4 : ∀ i, RefRow.A4 V0 i = (0 : EReal)) (p6 : ∀ i, RefRow.A6 V0 i = (0 : EReal))
  (p8 : ∀ i, ∃ r : ℝ, RefRow.A8 V0 i = ((r : ℝ) : EReal)) (p9 : ∀ i, RefRow.A9 V0 i = (1 : EReal))

include e0 e3 e5 e7 e8 e10 p0 p1 p2 p3 p4 p6 p8 p9

/-- The kernel's result array is the reference's rows. -/
theorem array_eq : (dats m 0 c).arrAt 7 cfg0.N = rows V0 := by
  refine final m c (rows V0) fun t r j hn => ?_
  choose X hX using fun k : Fin 2048 => p0 (ix3 (RefRow.hi (⟨t.val * 1024 + r.val, hn⟩ : Fin 8192)) (RefRow.lo (⟨t.val * 1024 + r.val, hn⟩ : Fin 8192)) k)
  choose W hW using fun (k : Fin 2048) (j : Fin 512) => p3 (ix2 k j)
  obtain ⟨cl, l, hr⟩ := exists_routed X (RefRow.D V0)
  have hx : ∀ k, (iblk m c 0 t : FVec Ideal S1024x2048 .f32) (ix2 r k) = RefRow.A0 V0 (ix3 (RefRow.hi (⟨t.val * 1024 + r.val, hn⟩ : Fin 8192)) (RefRow.lo (⟨t.val * 1024 + r.val, hn⟩ : Fin 8192)) k) := fun k =>
    (read0 (aX m c) t r k hn).trans ((x_at m c _ k).trans (congrFun e0.symm _))
  have hd : (fun (t : Fin 64) (k : Fin 2048) => aDT m c (ix2 k t)) = RefRow.D V0 := funext fun t => funext fun k => (dt_at m c k t).trans (congrFun e7.symm _)
  have hb := body_at (iblk m c 0 t) (aW1 m c) (aW2 m c) (aDT m c) (aD m c) (aQ m c) (aO m c) r X (fun k => (hx k).trans (hX k)) W
    (fun k j => (congrFun ((w1_eq m c).trans e3.symm) _).trans (hW k j)) cl l (by rw [hd]; exact hr)
    (fun t a b e => RefRow.A8 V0 (ix4 t a b e)) (fun t a b e => (q_at m c t a b e).trans (congrFun e8.symm _)) j
  refine hb.trans ?_
  have ho := RefRow.out_at V0 (⟨t.val * 1024 + r.val, hn⟩ : Fin 8192) X hX (fun k => p1 _) (fun k => p2 _) W hW (fun j => p4 _) (fun e => p6 _) (fun t a b e => p8 _) p9 cl l hr j
  refine Eq.trans ?_ ho.symm
  have w0 : (fun j : Fin 512 => aW2 m c (ix2 j (0 : Fin 128))) = fun j => RefRow.A5 V0 (ix2 j 0) := funext fun j => (w2_at m c j 0).trans (congrFun e5.symm _)
  have w1 : (fun j : Fin 512 => aW2 m c (ix2 j (1 : Fin 128))) = fun j => RefRow.A5 V0 (ix2 j 1) := funext fun j => (w2_at m c j 1).trans (congrFun e5.symm _)
  have hdd : aD m c (ix2 (tl cl l) j) = RefRow.A7 V0 (ix2 (tl cl l) j) := congrFun ((d_eq m c).trans e7.symm) _
  have hoo : aO m c (ix2 0 0) = RefRow.A10 V0 (ix1 0) := (o_at m c).trans (congrFun e10.symm _)
  rw [hx j, w0, w1, hdd, hoo]

end Args

/-- The reference's rows under the input's shape, at an entry. -/
theorem rows_at (b : Fin 4) (s j : Fin 2048) : shapeCast S4x2048x2048 (rows V0) shapeCasts_S8192x2048_S4x2048x2048 (ix3 b s j) = RefRow.out V0 (ix3 b s j) := by
  have hn : b.val * 2048 + s.val < 8192 := by omega
  refine (shapeCast_apply (rows V0) _ (ix3 b s j) (ix2 (⟨b.val * 2048 + s.val, hn⟩ : Fin 8192) j) (pos_eq b s _ j rfl).symm).trans ?_
  have q0 : RefRow.hi (⟨b.val * 2048 + s.val, hn⟩ : Fin 8192) = b := Fin.ext (by show (b.val * 2048 + s.val) / 2048 = b.val; omega)
  have q1 : RefRow.lo (⟨b.val * 2048 + s.val, hn⟩ : Fin 8192) = s := Fin.ext (by show (b.val * 2048 + s.val) % 2048 = s.val; omega)
  show RefRow.out V0 (ix3 (RefRow.hi (⟨b.val * 2048 + s.val, hn⟩ : Fin 8192)) (RefRow.lo (⟨b.val * 2048 + s.val, hn⟩ : Fin 8192)) j) = _
  rw [q0, q1]

/-- The reference's rows under the input's shape are its result. -/
theorem rows_eq : shapeCast S4x2048x2048 (rows V0) shapeCasts_S8192x2048_S4x2048x2048 = RefRow.out V0 := by
  funext i
  exact (congrArg _ (eq_ix3 i)).trans ((rows_at V0 (i 0) (i 1) (i 2)).trans (congrArg _ (eq_ix3 i)).symm)

end Cert.Proof.Equal

end
-- ==== Proof.lean ====
/- The proof of the certificate's claims: the frames of the kernel and of the reference, that the idealized kernel
   keeps the printed one's sites, and that the idealized kernel and the reference compute the same real values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Equal
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem Cert.Kernel

/-- The reference runs, keeps its arguments, and ends with every semaphore at zero: it has none. -/
theorem frame_reference : Cert.quiescent_ReferenceIdeal (hReferenceIdeal := Cert.ReferenceIdeal.Gen.facts) := fun m ρ _ =>
  (θ_run _ _ _).mono (fun r h => And.intro (fun c => (h c).2) (sem_eq_zero_of_no_sems (by decide) r.2))
    (Cert.ReferenceIdeal.Value.run (F := Ideal) m ρ)

/-- The same of the reference under the precondition, which its frame does not need. -/
theorem frame_reference_pre : Cert.quiescent_ReferenceIdeal_pre_model_parameters (hReferenceIdeal := Cert.ReferenceIdeal.Gen.facts) (hPre_model_parameters := Cert.Proof.Pre.facts) := fun m ρ _ =>
  (θ_run _ _ _).mono (fun r h => And.intro (fun c => (h c).2) (sem_eq_zero_of_no_sems (by decide) r.2))
    (Cert.ReferenceIdeal.Value.run (F := Ideal) m ρ)

/-- On the extended reals and under the precondition the kernel and the reference end with the same result. -/
theorem algebraic : Cert.algebraic_KernelIdeal_ReferenceIdeal_pre_model_parameters (hKernelIdeal := Cert.KernelIdeal.Gen.facts)
    (hReferenceIdeal := Cert.ReferenceIdeal.Gen.facts) (hPre_model_parameters := Cert.Proof.Pre.facts) := by
  intro m g m' g' hpre hargs
  let V0 := fun c : Dev Cert.ReferenceIdeal.nD => StableHlo.launchContents m' c
  refine ⟨fun c => RefRow.out (V0 c), ?_, ?_⟩
  · have hk := KerRun.run m g (fun c => Equal.rows (V0 c)) fun c => by
      obtain ⟨e0, e1, e2, e3, e4, e5, e6, e7, e8, e9, e10⟩ := hargs c
      obtain ⟨p0, p1, p2, p3, p4, p6, p8, p9⟩ := (letI := Cert.Proof.Pre.facts; Pre.read _ _ _ _ _ _ _ _ _ _ _ (hpre c))
      exact Equal.array_eq m c (V0 c) e0 e3 e5 e7 e8 e10 (fun i => (p0 i).imp fun _ h => (congrFun e0 i).trans h) (fun i => (congrFun e1 i).trans (p1 i))
        (fun i => (congrFun e2 i).trans (p2 i)) (fun i => (p3 i).imp fun _ h => (congrFun e3 i).trans h) (fun i => (congrFun e4 i).trans (p4 i))
        (fun i => (congrFun e6 i).trans (p6 i)) (fun i => (p8 i).imp fun _ h => (congrFun e8 i).trans h) (fun i => (congrFun e9 i).trans (p9 i))
    exact (θ_run _ _ _).mono (fun r h c => ⟨(h.1 c).trans (Equal.rows_eq (V0 c)), h.2 c⟩) (θ_run_and hk (Cert.KernelIdeal.Gen.unchanged m g))
  · exact (θ_run _ _ _).mono (fun r h c => ⟨(h c).1.trans (Cert.ReferenceIdeal.Value.val4_main_v157 (launchContents m' c)).symm, (h c).2⟩)
      (Cert.ReferenceIdeal.Value.run (F := Ideal) m' g')

/-- Every claim of the certificate. -/
theorem claim : Cert.Claim := ⟨Cert.Kernel.Gen.facts, Cert.KernelIdeal.Gen.facts, Cert.ReferenceIdeal.Gen.facts, Cert.Proof.Pre.facts,
  fun m ρ _ => Cert.Kernel.Gen.frame m ρ, fun m ρ _ => Cert.KernelIdeal.Gen.frame m ρ, fun m ρ _ => Cert.KernelIdeal.Gen.frame m ρ,
  frame_reference, frame_reference_pre,
  ⟨IdealRules.sign_bit.statement Cert.KernelIdeal.S2048x64 .f32, IdealRules.sign_bit.statement Cert.KernelIdeal.S2048x8 .f32⟩,
  algebraic⟩

end Cert.Proof

end
